-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_w_finite [hPre_w_finite : Cert.Pre_w_finite.Facts] (m : (ℓ : Loc Cert.KernelIdeal.nD Cert.KernelIdeal.τ Cert.KernelIdeal.sig) → Buf (Elt Ideal) ℓ) : Prop :=
  ∀ c : Dev Cert.KernelIdeal.nD,
    (Cert.Pre_w_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_w_finite [hPre_w_finite : Cert.Pre_w_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_w_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_w_finite [hKernelIdeal : Cert.KernelIdeal.Facts] [hPre_w_finite : Cert.Pre_w_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_w_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_w_finite [hReferenceIdeal : Cert.ReferenceIdeal.Facts] [hPre_w_finite : Cert.Pre_w_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_w_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_inf" .f32 0xC2A00000#32 ⊥
  ∧ IdealRules.named_const.Statement Cert.KernelIdeal.κ "log_2" .f32 0x3F317218#32 ((Real.log 2 : ℝ) : EReal)
  ∧ IdealRules.named_const.Statement Cert.KernelIdeal.κ "seventh" .f32 0x3E124925#32 ((1 / 7 : ℝ) : EReal)
  ∧ IdealRules.named_const.Statement Cert.KernelIdeal.κ "fifth" .f32 0x3E4CCCCD#32 ((1 / 5 : ℝ) : EReal)
  ∧ IdealRules.named_const.Statement Cert.KernelIdeal.κ "third" .f32 0x3EAAAAAB#32 ((1 / 3 : ℝ) : EReal)

def algebraic_KernelIdeal_ReferenceIdeal_pre_w_finite [hKernelIdeal : Cert.KernelIdeal.Facts] [hReferenceIdeal : Cert.ReferenceIdeal.Facts] [hPre_w_finite : Cert.Pre_w_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_w_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_3) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_logsumexp_pre_w_finite [hKernelIdeal : Cert.KernelIdeal.Facts] [hPre_w_finite : Cert.Pre_w_finite.Facts] [hPost_near_logsumexp : Cert.Post_near_logsumexp.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_w_finite m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near_logsumexp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v4)) (r.2.mem ((c.tc : Thread Cert.KernelIdeal.nD Cert.KernelIdeal.τ).loc Cert.KernelIdeal.main_v5))) = (fun _ => 1#1))

def Claim : Prop :=
  ∃ (hKernel : Cert.Kernel.Facts) (hKernelIdeal : Cert.KernelIdeal.Facts) (hReferenceIdeal : Cert.ReferenceIdeal.Facts) (hPre_w_finite : Cert.Pre_w_finite.Facts) (hPost_near_logsumexp : Cert.Post_near_logsumexp.Facts),
    quiescent_Kernel (hKernel := hKernel)
    ∧ quiescent_KernelIdeal (hKernelIdeal := hKernelIdeal)
    ∧ quiescent_KernelIdeal_pre_w_finite (hKernelIdeal := hKernelIdeal) (hPre_w_finite := hPre_w_finite)
    ∧ quiescent_ReferenceIdeal (hReferenceIdeal := hReferenceIdeal)
    ∧ quiescent_ReferenceIdeal_pre_w_finite (hReferenceIdeal := hReferenceIdeal) (hPre_w_finite := hPre_w_finite)
    ∧ preserves_Kernel_KernelIdeal
    ∧ algebraic_KernelIdeal_ReferenceIdeal_pre_w_finite (hKernelIdeal := hKernelIdeal) (hReferenceIdeal := hReferenceIdeal) (hPre_w_finite := hPre_w_finite)
    ∧ holds_KernelIdeal_near_logsumexp_pre_w_finite (hKernelIdeal := hKernelIdeal) (hPre_w_finite := hPre_w_finite) (hPost_near_logsumexp := hPost_near_logsumexp)
-- ==== Post_near_logsumexp.lean ====
abbrev S32x128x128 : Shape := ⟨3, ![32, 128, 128]⟩
abbrev S32x128x128x1 : Shape := ⟨4, ![32, 128, 128, 1]⟩
abbrev S32x129x129 : Shape := ⟨3, ![32, 129, 129]⟩
abbrev S32x128x128x3 : Shape := ⟨4, ![32, 128, 128, 3]⟩
abbrev S_ : Shape := ⟨0, ![]⟩

class Facts : Prop where
  slices_S32x129x129_S32x128x128_0_0_1 : S32x129x129.Slices ![0, 0, 1] S32x128x128
  slices_S32x129x129_S32x128x128_0_1_0 : S32x129x129.Slices ![0, 1, 0] S32x128x128
  slices_S32x129x129_S32x128x128_0_0_0 : S32x129x129.Slices ![0, 0, 0] S32x128x128
  slices_S32x129x129_S32x128x128_0_1_1 : S32x129x129.Slices ![0, 1, 1] S32x128x128
  bcast_S_S32x128x128 : S_.BroadcastsInDim S32x128x128 (![] : Fin 0 → Fin S32x128x128.rank)

variable [Facts]

def fn {F : FTy → Type} [FloatOps F] (main_arg0 : FVec F S32x128x128 .f32) (main_arg1 : FVec F S32x128x128x1 .f32) (main_arg2 : FVec F S32x129x129 .f32) (main_arg3 : FVec F S32x128x128x3 .f32) : IVec S32x128x128 1 :=
  let main_v0 : FVec F S32x128x128 .f32 := (extractStridedSlice S32x128x128 ![0, 0, 1] · slices_S32x129x129_S32x128x128_0_0_1) main_arg2
  let main_v1 : FVec F S32x128x128 .f32 := addf main_v0 main_arg0
  let main_v2 : FVec F S32x128x128 .f32 := (extractStridedSlice S32x128x128 ![0, 1, 0] · slices_S32x129x129_S32x128x128_0_1_0) main_arg2
  let main_v3 : FVec F S32x128x128 .f32 := addf main_v2 main_arg0
  let main_v4 : FVec F S32x128x128 .f32 := (extractStridedSlice S32x128x128 ![0, 0, 0] · slices_S32x129x129_S32x128x128_0_0_0) main_arg2
  let main_v5 : FVec F S32x128x128 .f32 := addf main_v4 main_arg0
  let main_v6 : FVec F S32x128x128 .f32 := maximumf main_v3 main_v5
  let main_v7 : FVec F S32x128x128 .f32 := maximumf main_v1 main_v6
  let main_v8 : FVec F S32x128x128 .f32 := subf main_v1 main_v7
  let main_v9 : FVec F S32x128x128 .f32 := Host.exp main_v8
  let main_v10 : FVec F S32x128x128 .f32 := subf main_v3 main_v7
  let main_v11 : FVec F S32x128x128 .f32 := Host.exp main_v10
  let main_v12 : FVec F S32x128x128 .f32 := addf main_v9 main_v11
  let main_v13 : FVec F S32x128x128 .f32 := subf main_v5 main_v7
  let main_v14 : FVec F S32x128x128 .f32 := Host.exp main_v13
  let main_v15 : FVec F S32x128x128 .f32 := addf main_v12 main_v14
  let main_v16 : FVec F S32x128x128 .f32 := Host.log main_v15
  let main_v17 : FVec F S32x128x128 .f32 := addf main_v7 main_v16
  let main_v18 : FVec F S32x128x128 .f32 := (extractStridedSlice S32x128x128 ![0, 1, 1] · slices_S32x129x129_S32x128x128_0_1_1) main_arg2
  let main_v19 : FVec F S32x128x128 .f32 := subf main_v18 main_v17
  let main_v20 : FVec F S32x128x128 .f32 := Host.absf main_v19
  let main_cst : FVec F S_ .f32 := constant S_ .f32 0x34000000#32
  let main_v21 : FVec F S32x128x128 .f32 := broadcastInDim S32x128x128 ![] bcast_S_S32x128x128 main_cst
  let main_v22 : IVec S32x128x128 1 := cmpf .ole main_v20 main_v21
  main_v22
-- ==== Pre_w_finite.lean ====
abbrev S32x128x128 : Shape := ⟨3, ![32, 128, 128]⟩
abbrev S32x128x128x1 : Shape := ⟨4, ![32, 128, 128, 1]⟩
abbrev S_ : Shape := ⟨0, ![]⟩

class Facts : Prop where
  bcast_S_S32x128x128 : S_.BroadcastsInDim S32x128x128 (![] : Fin 0 → Fin S32x128x128.rank)
  reducesTo_S32x128x128_S_d0_1_2 : S32x128x128.ReducesTo [0, 1, 2] S_
  h_S_ : 0 < S_.numel

variable [Facts]

def fn {F : FTy → Type} [FloatOps F] (main_arg0 : FVec F S32x128x128 .f32) (main_arg1 : FVec F S32x128x128x1 .f32) : IVec S_ 1 :=
  let main_v0 : FVec F S32x128x128 .f32 := Host.absf main_arg0
  let main_cst : FVec F S_ .f32 := constant S_ .f32 0x7F800000#32
  let main_v1 : FVec F S32x128x128 .f32 := broadcastInDim S32x128x128 ![] bcast_S_S32x128x128 main_cst
  let main_v2 : IVec S32x128x128 1 := cmpf .olt main_v0 main_v1
  let main_c : IVec S_ 1 := constantI S_ 1 1#1
  let main_v3 : IVec S_ 1 := (fun x v => Host.reduce IntOp.andi x v reducesTo_S32x128x128_S_d0_1_2 h_S_) main_v2 main_c
  main_v3
-- ==== Kernel.lean ====
abbrev S32x128x128 : Shape := ⟨3, ![32, 128, 128]⟩
abbrev S32x128x128x1 : Shape := ⟨4, ![32, 128, 128, 1]⟩
abbrev S32x16384 : Shape := ⟨2, ![32, 16384]⟩
abbrev S32x16648 : Shape := ⟨2, ![32, 16648]⟩
abbrev S32x49152 : Shape := ⟨2, ![32, 49152]⟩
abbrev S16384 : Shape := ⟨1, ![16384]⟩
abbrev S16648 : Shape := ⟨1, ![16648]⟩
abbrev S49152 : Shape := ⟨1, ![49152]⟩
abbrev S_ : Shape := ⟨0, ![]⟩
abbrev S1x16384 : Shape := ⟨2, ![1, 16384]⟩
abbrev S16 : Shape := ⟨1, ![16]⟩
abbrev S1x16648 : Shape := ⟨2, ![1, 16648]⟩
abbrev S1x49152 : Shape := ⟨2, ![1, 49152]⟩
abbrev S32x16641 : Shape := ⟨2, ![32, 16641]⟩
abbrev S32x129x129 : Shape := ⟨3, ![32, 129, 129]⟩
abbrev S32x128x128x3 : Shape := ⟨4, ![32, 128, 128, 3]⟩

abbrev nBuf : Table → Nat
  | .hbm => 9
  | .local .scVector .vmem => 4
  | _ => 0

abbrev bufTy : (tb : Table) → Fin (nBuf tb) → BufTy
  | .hbm, ⟨0, _⟩ => ⟨S32x128x128, .f32⟩
  | .hbm, ⟨1, _⟩ => ⟨S32x128x128x1, .f32⟩
  | .hbm, ⟨2, _⟩ => ⟨S32x16384, .f32⟩
  | .hbm, ⟨3, _⟩ => ⟨S32x16384, .f32⟩
  | .hbm, ⟨4, _⟩ => ⟨S32x16648, .f32⟩
  | .hbm, ⟨5, _⟩ => ⟨S32x49152, .f32⟩
  | .hbm, ⟨6, _⟩ => ⟨S32x16641, .f32⟩
  | .hbm, ⟨7, _⟩ => ⟨S32x129x129, .f32⟩
  | .hbm, ⟨8, _⟩ => ⟨S32x128x128x3, .f32⟩
  | .local .scVector .vmem, ⟨0, _⟩ => ⟨S16384, .f32⟩
  | .local .scVector .vmem, ⟨1, _⟩ => ⟨S16384, .f32⟩
  | .local .scVector .vmem, ⟨2, _⟩ => ⟨S16648, .f32⟩
  | .local .scVector .vmem, ⟨3, _⟩ => ⟨S49152, .f32⟩
  | _, _ => ⟨S32x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 2, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_9_r0 : BitVec 32 := 0#32
  ![v1.toNat, 0]
@[reducible] def k0_t1_loop : Scf.Loop 32 :=
  let c0_i32_0 : BitVec 32 := 0#32
  let c9_i32 : BitVec 32 := 9#32
  let v4 : BitVec 32 := Scalar.addi c0_i32_0 c9_i32
  let c1_i32 : BitVec 32 := 1#32
  ⟨c0_i32_0, v4, c1_i32⟩

def k0_chk1 (v9 : IVec S16 32) : Prop :=
  (∀ a x, ((![v9] : Fin 1 → IVec S16 32) a x).toNat < S16648.size a)
theorem k0_idx1_inb : ∀ (v9 : IVec S16 32) (k0_hw1 : k0_chk1 v9), ∀ a x, ((![v9] : Fin 1 → IVec S16 32) a x).toNat < S16648.size a := fun v9 k0_hw1 => k0_hw1

def k0_chk2 (v24 : IVec S16 32) : Prop :=
  (∀ a x, ((![v24] : Fin 1 → IVec S16 32) a x).toNat < S16648.size a)
theorem k0_idx2_inb : ∀ (v24 : IVec S16 32) (k0_hw2 : k0_chk2 v24), ∀ a x, ((![v24] : Fin 1 → IVec S16 32) a x).toNat < S16648.size a := fun v24 k0_hw2 => k0_hw2
@[reducible] def k0_t2_loop : Scf.Loop 32 :=
  let c2_i32 : BitVec 32 := 2#32
  let c255_i32 : BitVec 32 := 255#32
  let v5 : BitVec 32 := Scalar.addi c2_i32 c255_i32
  let c1_i32_3 : BitVec 32 := 1#32
  ⟨c2_i32, v5, c1_i32_3⟩
@[reducible] def k0_t3_loop (k0_t2 : Fin k0_t2_loop.trips) : Scf.Loop 32 :=
  let c0_i32_22 : BitVec 32 := 0#32
  let c128_i32_12 : BitVec 32 := 128#32
  let c2_i32 : BitVec 32 := 2#32
  let c1_i32_3 : BitVec 32 := 1#32
  let arg10 : BitVec 32 := Scf.iv c2_i32 c1_i32_3 k0_t2
  let c1_i32_11 : BitVec 32 := 1#32
  let v9 : BitVec 32 := Scalar.subi arg10 c1_i32_11
  let v10 : BitVec 32 := Scalar.minsi c128_i32_12 v9
  let c1_i32_10 : BitVec 32 := 1#32
  let c128_i32_9 : BitVec 32 := 128#32
  let v7 : BitVec 32 := Scalar.subi arg10 c128_i32_9
  let v8 : BitVec 32 := Scalar.maxsi c1_i32_10 v7
  let v11 : BitVec 32 := Scalar.subi v10 v8
  let c16_i32_13 : BitVec 32 := 16#32
  let v12 : BitVec 32 := Scalar.addi v11 c16_i32_13
  let c0_i32_15 : BitVec 32 := 0#32
  let v14 : BitVec 1 := Scalar.cmpi .sgt v12 c0_i32_15
  let v15 : BitVec 32 := Scalar.extui v14
  let c0_i32_16 : BitVec 32 := 0#32
  let v16 : BitVec 1 := Scalar.cmpi .slt v12 c0_i32_16
  let v17 : BitVec 32 := Scalar.extui v16
  let v18 : BitVec 32 := Scalar.subi v15 v17
  let c16_i32_14 : BitVec 32 := 16#32
  let c0_i32_17 : BitVec 32 := 0#32
  let v19 : BitVec 1 := Scalar.cmpi .sgt c16_i32_14 c0_i32_17
  let v20 : BitVec 32 := Scalar.extui v19
  let c0_i32_18 : BitVec 32 := 0#32
  let v21 : BitVec 1 := Scalar.cmpi .slt c16_i32_14 c0_i32_18
  let v22 : BitVec 32 := Scalar.extui v21
  let v23 : BitVec 32 := Scalar.subi v20 v22
  let v24 : BitVec 1 := Scalar.cmpi .ne v18 v23
  let v25 : BitVec 32 := Scalar.remsi v12 c16_i32_14
  let c0_i32_19 : BitVec 32 := 0#32
  let v26 : BitVec 1 := Scalar.cmpi .ne v25 c0_i32_19
  let v27 : BitVec 1 := Scalar.andi v24 v26
  let v13 : BitVec 32 := Scalar.divsi v12 c16_i32_14
  let c1_i32_20 : BitVec 32 := 1#32
  let v28 : BitVec 32 := Scalar.subi v13 c1_i32_20
  let v29 : BitVec 32 := Scalar.select v27 v28 v13
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_24 : BitVec 32 := 1#32
  ⟨c0_i32_22, v34, c1_i32_24⟩

def k0_chk3 (v46 : IVec S16 32) : Prop :=
  (∀ a x, ((![v46] : Fin 1 → IVec S16 32) a x).toNat < S16648.size a)
theorem k0_idx3_inb : ∀ (v46 : IVec S16 32) (k0_hw3 : k0_chk3 v46), ∀ a x, ((![v46] : Fin 1 → IVec S16 32) a x).toNat < S16648.size a := fun v46 k0_hw3 => k0_hw3

def k0_chk4 (v49 : IVec S16 32) : Prop :=
  (∀ a x, ((![v49] : Fin 1 → IVec S16 32) a x).toNat < S16648.size a)
theorem k0_idx4_inb : ∀ (v49 : IVec S16 32) (k0_hw4 : k0_chk4 v49), ∀ a x, ((![v49] : Fin 1 → IVec S16 32) a x).toNat < S16648.size a := fun v49 k0_hw4 => k0_hw4

def k0_chk5 (v52 : IVec S16 32) : Prop :=
  (∀ a x, ((![v52] : Fin 1 → IVec S16 32) a x).toNat < S16648.size a)
theorem k0_idx5_inb : ∀ (v52 : IVec S16 32) (k0_hw5 : k0_chk5 v52), ∀ a x, ((![v52] : Fin 1 → IVec S16 32) a x).toNat < S16648.size a := fun v52 k0_hw5 => k0_hw5

def k0_chk6 (v59 : IVec S16 32) : Prop :=
  (∀ a x, ((![v59] : Fin 1 → IVec S16 32) a x).toNat < S16384.size a)
theorem k0_idx6_inb : ∀ (v59 : IVec S16 32) (k0_hw6 : k0_chk6 v59), ∀ a x, ((![v59] : Fin 1 → IVec S16 32) a x).toNat < S16384.size a := fun v59 k0_hw6 => k0_hw6

def k0_chk7 (v44 : IVec S16 32) : Prop :=
  (∀ a x, ((![v44] : Fin 1 → IVec S16 32) a x).toNat < S16648.size a)
theorem k0_idx7_inb : ∀ (v44 : IVec S16 32) (k0_hw7 : k0_chk7 v44), ∀ a x, ((![v44] : Fin 1 → IVec S16 32) a x).toNat < S16648.size a := fun v44 k0_hw7 => k0_hw7
@[reducible] def k0_t4_loop (k0_t2 : Fin k0_t2_loop.trips) : Scf.Loop 32 :=
  let c0_i32_22 : BitVec 32 := 0#32
  let c128_i32_12 : BitVec 32 := 128#32
  let c2_i32 : BitVec 32 := 2#32
  let c1_i32_3 : BitVec 32 := 1#32
  let arg10 : BitVec 32 := Scf.iv c2_i32 c1_i32_3 k0_t2
  let c1_i32_11 : BitVec 32 := 1#32
  let v9 : BitVec 32 := Scalar.subi arg10 c1_i32_11
  let v10 : BitVec 32 := Scalar.minsi c128_i32_12 v9
  let c1_i32_10 : BitVec 32 := 1#32
  let c128_i32_9 : BitVec 32 := 128#32
  let v7 : BitVec 32 := Scalar.subi arg10 c128_i32_9
  let v8 : BitVec 32 := Scalar.maxsi c1_i32_10 v7
  let v11 : BitVec 32 := Scalar.subi v10 v8
  let c16_i32_13 : BitVec 32 := 16#32
  let v12 : BitVec 32 := Scalar.addi v11 c16_i32_13
  let c0_i32_15 : BitVec 32 := 0#32
  let v14 : BitVec 1 := Scalar.cmpi .sgt v12 c0_i32_15
  let v15 : BitVec 32 := Scalar.extui v14
  let c0_i32_16 : BitVec 32 := 0#32
  let v16 : BitVec 1 := Scalar.cmpi .slt v12 c0_i32_16
  let v17 : BitVec 32 := Scalar.extui v16
  let v18 : BitVec 32 := Scalar.subi v15 v17
  let c16_i32_14 : BitVec 32 := 16#32
  let c0_i32_17 : BitVec 32 := 0#32
  let v19 : BitVec 1 := Scalar.cmpi .sgt c16_i32_14 c0_i32_17
  let v20 : BitVec 32 := Scalar.extui v19
  let c0_i32_18 : BitVec 32 := 0#32
  let v21 : BitVec 1 := Scalar.cmpi .slt c16_i32_14 c0_i32_18
  let v22 : BitVec 32 := Scalar.extui v21
  let v23 : BitVec 32 := Scalar.subi v20 v22
  let v24 : BitVec 1 := Scalar.cmpi .ne v18 v23
  let v25 : BitVec 32 := Scalar.remsi v12 c16_i32_14
  let c0_i32_19 : BitVec 32 := 0#32
  let v26 : BitVec 1 := Scalar.cmpi .ne v25 c0_i32_19
  let v27 : BitVec 1 := Scalar.andi v24 v26
  let v13 : BitVec 32 := Scalar.divsi v12 c16_i32_14
  let c1_i32_20 : BitVec 32 := 1#32
  let v28 : BitVec 32 := Scalar.subi v13 c1_i32_20
  let v29 : BitVec 32 := Scalar.select v27 v28 v13
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let v31 : BitVec 32 := Scalar.addi c0_i32_22 v30
  let c1_i32_25 : BitVec 32 := 1#32
  ⟨v34, v31, c1_i32_25⟩

def k0_chk8 (k0_t2 : Fin k0_t2_loop.trips) (k0_t4 : Fin (k0_t4_loop k0_t2).trips) (v46 : IVec S16 32) : Prop :=
  (∀ a x, ((![v46] : Fin 1 → IVec S16 32) a x).toNat < S16648.size a)
theorem k0_idx8_inb : ∀ (k0_t2 : Fin k0_t2_loop.trips) (k0_t4 : Fin (k0_t4_loop k0_t2).trips) (v46 : IVec S16 32) (k0_hw8 : k0_chk8 k0_t2 k0_t4 v46), ∀ a x, ((![v46] : Fin 1 → IVec S16 32) a x).toNat < S16648.size a := fun k0_t2 k0_t4 v46 k0_hw8 => k0_hw8

def k0_chk9 (k0_t2 : Fin k0_t2_loop.trips) (k0_t4 : Fin (k0_t4_loop k0_t2).trips) (v49 : IVec S16 32) : Prop :=
  (∀ a x, ((![v49] : Fin 1 → IVec S16 32) a x).toNat < S16648.size a)
theorem k0_idx9_inb : ∀ (k0_t2 : Fin k0_t2_loop.trips) (k0_t4 : Fin (k0_t4_loop k0_t2).trips) (v49 : IVec S16 32) (k0_hw9 : k0_chk9 k0_t2 k0_t4 v49), ∀ a x, ((![v49] : Fin 1 → IVec S16 32) a x).toNat < S16648.size a := fun k0_t2 k0_t4 v49 k0_hw9 => k0_hw9

def k0_chk10 (k0_t2 : Fin k0_t2_loop.trips) (k0_t4 : Fin (k0_t4_loop k0_t2).trips) (v52 : IVec S16 32) : Prop :=
  (∀ a x, ((![v52] : Fin 1 → IVec S16 32) a x).toNat < S16648.size a)
theorem k0_idx10_inb : ∀ (k0_t2 : Fin k0_t2_loop.trips) (k0_t4 : Fin (k0_t4_loop k0_t2).trips) (v52 : IVec S16 32) (k0_hw10 : k0_chk10 k0_t2 k0_t4 v52), ∀ a x, ((![v52] : Fin 1 → IVec S16 32) a x).toNat < S16648.size a := fun k0_t2 k0_t4 v52 k0_hw10 => k0_hw10

def k0_chk11 (k0_t2 : Fin k0_t2_loop.trips) (k0_t4 : Fin (k0_t4_loop k0_t2).trips) (v59 : IVec S16 32) : Prop :=
  (∀ a x, ((![v59] : Fin 1 → IVec S16 32) a x).toNat < S16384.size a)
theorem k0_idx11_inb : ∀ (k0_t2 : Fin k0_t2_loop.trips) (k0_t4 : Fin (k0_t4_loop k0_t2).trips) (v59 : IVec S16 32) (k0_hw11 : k0_chk11 k0_t2 k0_t4 v59), ∀ a x, ((![v59] : Fin 1 → IVec S16 32) a x).toNat < S16384.size a := fun k0_t2 k0_t4 v59 k0_hw11 => k0_hw11

def k0_chk12 (k0_t2 : Fin k0_t2_loop.trips) (k0_t4 : Fin (k0_t4_loop k0_t2).trips) (v44 : IVec S16 32) : Prop :=
  (∀ a x, ((![v44] : Fin 1 → IVec S16 32) a x).toNat < S16648.size a)
theorem k0_idx12_inb : ∀ (k0_t2 : Fin k0_t2_loop.trips) (k0_t4 : Fin (k0_t4_loop k0_t2).trips) (v44 : IVec S16 32) (k0_hw12 : k0_chk12 k0_t2 k0_t4 v44), ∀ a x, ((![v44] : Fin 1 → IVec S16 32) a x).toNat < S16648.size a := fun k0_t2 k0_t4 v44 k0_hw12 => k0_hw12
@[reducible] def k0_t5_loop : Scf.Loop 32 :=
  let c1_i32_6 : BitVec 32 := 1#32
  let c128_i32 : BitVec 32 := 128#32
  let v6 : BitVec 32 := Scalar.addi c1_i32_6 c128_i32
  let c1_i32_7 : BitVec 32 := 1#32
  ⟨c1_i32_6, v6, c1_i32_7⟩
@[reducible] def k0_t6_loop : Scf.Loop 32 :=
  let c0_i32_10 : BitVec 32 := 0#32
  let c8_i32 : BitVec 32 := 8#32
  let v8 : BitVec 32 := Scalar.addi c0_i32_10 c8_i32
  let c1_i32_11 : BitVec 32 := 1#32
  ⟨c0_i32_10, v8, c1_i32_11⟩

def k0_chk13 (v22 : IVec S16 32) : Prop :=
  (∀ a x, ((![v22] : Fin 1 → IVec S16 32) a x).toNat < S16648.size a)
theorem k0_idx13_inb : ∀ (v22 : IVec S16 32) (k0_hw13 : k0_chk13 v22), ∀ a x, ((![v22] : Fin 1 → IVec S16 32) a x).toNat < S16648.size a := fun v22 k0_hw13 => k0_hw13

def k0_chk14 (v27 : IVec S16 32) : Prop :=
  (∀ a x, ((![v27] : Fin 1 → IVec S16 32) a x).toNat < S16648.size a)
theorem k0_idx14_inb : ∀ (v27 : IVec S16 32) (k0_hw14 : k0_chk14 v27), ∀ a x, ((![v27] : Fin 1 → IVec S16 32) a x).toNat < S16648.size a := fun v27 k0_hw14 => k0_hw14

def k0_chk15 (v31 : IVec S16 32) : Prop :=
  (∀ a x, ((![v31] : Fin 1 → IVec S16 32) a x).toNat < S16648.size a)
theorem k0_idx15_inb : ∀ (v31 : IVec S16 32) (k0_hw15 : k0_chk15 v31), ∀ a x, ((![v31] : Fin 1 → IVec S16 32) a x).toNat < S16648.size a := fun v31 k0_hw15 => k0_hw15

def k0_chk16 (v19 : IVec S16 32) : Prop :=
  (∀ a x, ((![v19] : Fin 1 → IVec S16 32) a x).toNat < S16384.size a) ∧
  (∀ a x, ((![v19] : Fin 1 → IVec S16 32) a x).toNat < S16384.size a)
theorem k0_idx16_inb : ∀ (v19 : IVec S16 32) (k0_hw16 : k0_chk16 v19), ∀ a x, ((![v19] : Fin 1 → IVec S16 32) a x).toNat < S16384.size a := fun v19 k0_hw16 => k0_hw16.1
theorem k0_idx17_inb : ∀ (v19 : IVec S16 32) (k0_hw16 : k0_chk16 v19), ∀ a x, ((![v19] : Fin 1 → IVec S16 32) a x).toNat < S16384.size a := fun v19 k0_hw16 => k0_hw16.2

def k0_chk17 (v56 : IVec S16 32) : Prop :=
  (∀ a x, ((![v56] : Fin 1 → IVec S16 32) a x).toNat < S49152.size a)
theorem k0_idx18_inb : ∀ (v56 : IVec S16 32) (k0_hw17 : k0_chk17 v56), ∀ a x, ((![v56] : Fin 1 → IVec S16 32) a x).toNat < S49152.size a := fun v56 k0_hw17 => k0_hw17

def k0_chk18 (v59 : IVec S16 32) : Prop :=
  (∀ a x, ((![v59] : Fin 1 → IVec S16 32) a x).toNat < S49152.size a)
theorem k0_idx19_inb : ∀ (v59 : IVec S16 32) (k0_hw18 : k0_chk18 v59), ∀ a x, ((![v59] : Fin 1 → IVec S16 32) a x).toNat < S49152.size a := fun v59 k0_hw18 => k0_hw18

def k0_chk19 (v62 : IVec S16 32) : Prop :=
  (∀ a x, ((![v62] : Fin 1 → IVec S16 32) a x).toNat < S49152.size a)
theorem k0_idx20_inb : ∀ (v62 : IVec S16 32) (k0_hw19 : k0_chk19 v62), ∀ a x, ((![v62] : Fin 1 → IVec S16 32) a x).toNat < S49152.size a := fun v62 k0_hw19 => k0_hw19
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_9_r2 : BitVec 32 := 0#32
  ![v1.toNat, 0]
def k0_off3 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_9_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "fifth" => some ((1 / 5 : ℝ) : EReal)
  | "log_2" => some ((Real.log 2 : ℝ) : EReal)
  | "neg_inf" => some ⊥
  | "seventh" => some ((1 / 7 : ℝ) : EReal)
  | "third" => some ((1 / 3 : ℝ) : EReal)
  | _ => none
-- ==== ReferenceIdeal.lean ====
abbrev S32x128x128 : Shape := ⟨3, ![32, 128, 128]⟩
abbrev S32x128x128x1 : Shape := ⟨4, ![32, 128, 128, 1]⟩
abbrev S_ : Shape := ⟨0, ![]⟩
abbrev S32x129x129 : Shape := ⟨3, ![32, 129, 129]⟩
abbrev S1 : Shape := ⟨1, ![1]⟩
abbrev S2 : Shape := ⟨1, ![2]⟩
abbrev S32 : Shape := ⟨1, ![32]⟩
abbrev S32x1x1 : Shape := ⟨3, ![32, 1, 1]⟩
abbrev S1x32x1x1 : Shape := ⟨4, ![1, 32, 1, 1]⟩
abbrev S3x32x1x1 : Shape := ⟨4, ![3, 32, 1, 1]⟩
abbrev S32x128x128x3 : Shape := ⟨4, ![32, 128, 128, 3]⟩

abbrev nBuf : Space → Nat
  | .hbm => 203
  | .vmem => 0
  | .smem => 0
  | _ => 0

abbrev hbmTy0_0 (i : Nat) : BufTy := match i % 128 with
  | 0 => ⟨S32x128x128, .f32⟩
  | 1 => ⟨S32x128x128x1, .f32⟩
  | 2 => ⟨S_, .f32⟩
  | 3 => ⟨S32x128x128, .f32⟩
  | 4 => ⟨S32x128x128, .f32⟩
  | 5 => ⟨S_, .f32⟩
  | 6 => ⟨S32x129x129, .f32⟩
  | 7 => ⟨S_, .i32⟩
  | 8 => ⟨S1, .i32⟩
  | 9 => ⟨S_, .i32⟩
  | 10 => ⟨S1, .i32⟩
  | 11 => ⟨S2, .i32⟩
  | 12 => ⟨S_, .f32⟩
  | 13 => ⟨S32, .f32⟩
  | 14 => ⟨S32x129x129, .f32⟩
  | 15 => ⟨S_, .i32⟩
  | 16 => ⟨S_, .i32⟩
  | 17 => ⟨S32x128x128, .f32⟩
  | 18 => ⟨S_, .i32⟩
  | 19 => ⟨S_, .i32⟩
  | 20 => ⟨S32x129x129, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S32x1x1, .f32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S32x1x1, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S32x1x1, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S32x1x1, .f32⟩
  | 89 => ⟨S32x1x1, .f32⟩
  | 90 => ⟨S32x1x1, .f32⟩
  | 91 => ⟨S32x1x1, .f32⟩
  | 92 => ⟨S1x32x1x1, .f32⟩
  | 93 => ⟨S1x32x1x1, .f32⟩
  | 94 => ⟨S1x32x1x1, .f32⟩
  | 95 => ⟨S3x32x1x1, .f32⟩
  | 96 => ⟨S_, .f32⟩
  | 97 => ⟨S32x1x1, .f32⟩
  | 98 => ⟨S1x32x1x1, .f32⟩
  | 99 => ⟨S3x32x1x1, .f32⟩
  | 100 => ⟨S3x32x1x1, .f32⟩
  | 101 => ⟨S3x32x1x1, .f32⟩
  | 102 => ⟨S_, .f32⟩
  | 103 => ⟨S32x1x1, .f32⟩
  | 104 => ⟨S_, .f32⟩
  | 105 => ⟨S32x1x1, .f32⟩
  | 106 => ⟨S32x1x1, .i1⟩
  | 107 => ⟨S_, .f32⟩
  | 108 => ⟨S32x1x1, .f32⟩
  | 109 => ⟨S32x1x1, .f32⟩
  | 110 => ⟨S32x1x1, .f32⟩
  | 111 => ⟨S_, .f32⟩
  | 112 => ⟨S32x1x1, .f32⟩
  | 113 => ⟨S32x1x1, .f32⟩
  | 114 => ⟨S_, .f32⟩
  | 115 => ⟨S32x1x1, .f32⟩
  | 116 => ⟨S32x1x1, .f32⟩
  | 117 => ⟨S32x1x1, .f32⟩
  | 118 => ⟨S32x1x1, .f32⟩
  | 119 => ⟨S32x1x1, .f32⟩
  | 120 => ⟨S_, .f32⟩
  | 121 => ⟨S32x1x1, .f32⟩
  | 122 => ⟨S32x1x1, .f32⟩
  | 123 => ⟨S32x1x1, .f32⟩
  | 124 => ⟨S32x1x1, .f32⟩
  | 125 => ⟨S32x1x1, .f32⟩
  | 126 => ⟨S32x1x1, .f32⟩
  | 127 => ⟨S_, .f32⟩
  | _ => ⟨S32x128x128, .f32⟩

abbrev hbmTy0_1 (i : Nat) : BufTy := match i % 128 with
  | 0 => ⟨S32x1x1, .f32⟩
  | 1 => ⟨S32x1x1, .f32⟩
  | 2 => ⟨S32x1x1, .f32⟩
  | 3 => ⟨S32x1x1, .f32⟩
  | 4 => ⟨S32x1x1, .f32⟩
  | 5 => ⟨S32x1x1, .f32⟩
  | 6 => ⟨S32x1x1, .f32⟩
  | 7 => ⟨S_, .f32⟩
  | 8 => ⟨S32x1x1, .f32⟩
  | 9 => ⟨S32x1x1, .f32⟩
  | 10 => ⟨S32x1x1, .f32⟩
  | 11 => ⟨S_, .f32⟩
  | 12 => ⟨S32x1x1, .f32⟩
  | 13 => ⟨S32x1x1, .i1⟩
  | 14 => ⟨S_, .f32⟩
  | 15 => ⟨S_, .f32⟩
  | 16 => ⟨S_, .f32⟩
  | 17 => ⟨S32x1x1, .f32⟩
  | 18 => ⟨S32x1x1, .f32⟩
  | 19 => ⟨S32x1x1, .f32⟩
  | 20 => ⟨S_, .f32⟩
  | 21 => ⟨S32x1x1, .f32⟩
  | 22 => ⟨S32x1x1, .f32⟩
  | 23 => ⟨S32x1x1, .f32⟩
  | 24 => ⟨S32x1x1, .f32⟩
  | 25 => ⟨S32x1x1, .f32⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S32x129x129, .f32⟩
  | 44 => ⟨S_, .i32⟩
  | 45 => ⟨S_, .i32⟩
  | 46 => ⟨S_, .f32⟩
  | 47 => ⟨S32x128x128, .f32⟩
  | 48 => ⟨S32x128x128, .f32⟩
  | 49 => ⟨S32x128x128, .f32⟩
  | 50 => ⟨S32x128x128, .f32⟩
  | 51 => ⟨S32x128x128, .f32⟩
  | 52 => ⟨S32x128x128, .f32⟩
  | 53 => ⟨S32x128x128, .f32⟩
  | 54 => ⟨S32x128x128, .f32⟩
  | 55 => ⟨S32x128x128x1, .f32⟩
  | 56 => ⟨S32x128x128x1, .f32⟩
  | 57 => ⟨S32x128x128x1, .f32⟩
  | 58 => ⟨S32x128x128x3, .f32⟩
  | 59 => ⟨S_, .f32⟩
  | 60 => ⟨S32x128x128, .f32⟩
  | 61 => ⟨S_, .f32⟩
  | 62 => ⟨S32x128x128, .f32⟩
  | 63 => ⟨S32x128x128, .f32⟩
  | 64 => ⟨S32x128x128x1, .f32⟩
  | 65 => ⟨S32x128x128x3, .f32⟩
  | 66 => ⟨S32x128x128x3, .f32⟩
  | 67 => ⟨S32x128x128x3, .f32⟩
  | 68 => ⟨S_, .f32⟩
  | 69 => ⟨S32x128x128, .f32⟩
  | 70 => ⟨S32x128x128x1, .f32⟩
  | 71 => ⟨S32x128x128x3, .f32⟩
  | 72 => ⟨S32x128x128x3, .f32⟩
  | 73 => ⟨S32x128x128x3, .f32⟩
  | 74 => ⟨S32x128x128x3, .f32⟩
  | _ => ⟨S32x128x128, .f32⟩

abbrev hbmTy (i : Nat) : BufTy := match i / 128 with
  | 0 => hbmTy0_0 i
  | 1 => hbmTy0_1 i
  | _ => ⟨S32x128x128, .f32⟩

abbrev bufTy : (tb : Table) → Fin (tcTables nBuf tb) → BufTy
  | .hbm, ⟨i, _⟩ => hbmTy i
  | _, _ => ⟨S32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_c_3 : Ref sig .tc := ⟨.hbm, 15, rfl⟩
abbrev main_c_4 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_while0c_c_12 : Ref sig .tc := ⟨.hbm, 21, rfl⟩
abbrev main_while0c_v34 : Ref sig .tc := ⟨.hbm, 22, rfl⟩
abbrev main_while0b_c_12 : Ref sig .tc := ⟨.hbm, 23, rfl⟩
abbrev main_while0b_v34 : Ref sig .tc := ⟨.hbm, 24, rfl⟩
abbrev main_while0b_c_13 : Ref sig .tc := ⟨.hbm, 25, rfl⟩
abbrev main_while0b_v35 : Ref sig .tc := ⟨.hbm, 26, rfl⟩
abbrev main_while0b_c_14 : Ref sig .tc := ⟨.hbm, 27, rfl⟩
abbrev main_while0b_v36 : Ref sig .tc := ⟨.hbm, 28, rfl⟩
abbrev main_while0b_c_15 : Ref sig .tc := ⟨.hbm, 29, rfl⟩
abbrev main_while0b_v37 : Ref sig .tc := ⟨.hbm, 30, rfl⟩
abbrev main_while0b_c_16 : Ref sig .tc := ⟨.hbm, 31, rfl⟩
abbrev main_while0b_v38 : Ref sig .tc := ⟨.hbm, 32, rfl⟩
abbrev main_while0b_v39 : Ref sig .tc := ⟨.hbm, 33, rfl⟩
abbrev main_while0b_c_17 : Ref sig .tc := ⟨.hbm, 34, rfl⟩
abbrev main_while0b_v40 : Ref sig .tc := ⟨.hbm, 35, rfl⟩
abbrev main_while0b_v41 : Ref sig .tc := ⟨.hbm, 36, rfl⟩
abbrev main_while0b_c_18 : Ref sig .tc := ⟨.hbm, 37, rfl⟩
abbrev main_while0b_v42 : Ref sig .tc := ⟨.hbm, 38, rfl⟩
abbrev main_while0b_v43 : Ref sig .tc := ⟨.hbm, 39, rfl⟩
abbrev main_while0b_c_19 : Ref sig .tc := ⟨.hbm, 40, rfl⟩
abbrev main_while0b_v44 : Ref sig .tc := ⟨.hbm, 41, rfl⟩
abbrev main_while0b_v45 : Ref sig .tc := ⟨.hbm, 42, rfl⟩
abbrev main_while0b_c_20 : Ref sig .tc := ⟨.hbm, 43, rfl⟩
abbrev main_while0b_v46 : Ref sig .tc := ⟨.hbm, 44, rfl⟩
abbrev main_while0b_c_21 : Ref sig .tc := ⟨.hbm, 45, rfl⟩
abbrev main_while0b_v47 : Ref sig .tc := ⟨.hbm, 46, rfl⟩
abbrev main_while0b_c_22 : Ref sig .tc := ⟨.hbm, 47, rfl⟩
abbrev main_while0b_v48 : Ref sig .tc := ⟨.hbm, 48, rfl⟩
abbrev main_while0b_v49 : Ref sig .tc := ⟨.hbm, 49, rfl⟩
abbrev main_while0b_c_23 : Ref sig .tc := ⟨.hbm, 50, rfl⟩
abbrev main_while0b_v50 : Ref sig .tc := ⟨.hbm, 51, rfl⟩
abbrev main_while0b_v51 : Ref sig .tc := ⟨.hbm, 52, rfl⟩
abbrev main_while0b_c_24 : Ref sig .tc := ⟨.hbm, 53, rfl⟩
abbrev main_while0b_v52 : Ref sig .tc := ⟨.hbm, 54, rfl⟩
abbrev main_while0b_v53 : Ref sig .tc := ⟨.hbm, 55, rfl⟩
abbrev main_while0b_c_25 : Ref sig .tc := ⟨.hbm, 56, rfl⟩
abbrev main_while0b_v54 : Ref sig .tc := ⟨.hbm, 57, rfl⟩
abbrev main_while0b_v55 : Ref sig .tc := ⟨.hbm, 58, rfl⟩
abbrev main_while0b_c_26 : Ref sig .tc := ⟨.hbm, 59, rfl⟩
abbrev main_while0b_v56 : Ref sig .tc := ⟨.hbm, 60, rfl⟩
abbrev main_while0b_c_27 : Ref sig .tc := ⟨.hbm, 61, rfl⟩
abbrev main_while0b_v57 : Ref sig .tc := ⟨.hbm, 62, rfl⟩
abbrev main_while0b_v58 : Ref sig .tc := ⟨.hbm, 63, rfl⟩
abbrev main_while0b_c_28 : Ref sig .tc := ⟨.hbm, 64, rfl⟩
abbrev main_while0b_v59 : Ref sig .tc := ⟨.hbm, 65, rfl⟩
abbrev main_while0b_v60 : Ref sig .tc := ⟨.hbm, 66, rfl⟩
abbrev main_while0b_c_29 : Ref sig .tc := ⟨.hbm, 67, rfl⟩
abbrev main_while0b_v61 : Ref sig .tc := ⟨.hbm, 68, rfl⟩
abbrev main_while0b_v62 : Ref sig .tc := ⟨.hbm, 69, rfl⟩
abbrev main_while0b_c_30 : Ref sig .tc := ⟨.hbm, 70, rfl⟩
abbrev main_while0b_v63 : Ref sig .tc := ⟨.hbm, 71, rfl⟩
abbrev main_while0b_v64 : Ref sig .tc := ⟨.hbm, 72, rfl⟩
abbrev main_while0b_c_31 : Ref sig .tc := ⟨.hbm, 73, rfl⟩
abbrev main_while0b_v65 : Ref sig .tc := ⟨.hbm, 74, rfl⟩
abbrev main_while0b_c_32 : Ref sig .tc := ⟨.hbm, 75, rfl⟩
abbrev main_while0b_v66 : Ref sig .tc := ⟨.hbm, 76, rfl⟩
abbrev main_while0b_v67 : Ref sig .tc := ⟨.hbm, 77, rfl⟩
abbrev main_while0b_c_33 : Ref sig .tc := ⟨.hbm, 78, rfl⟩
abbrev main_while0b_v68 : Ref sig .tc := ⟨.hbm, 79, rfl⟩
abbrev main_while0b_v69 : Ref sig .tc := ⟨.hbm, 80, rfl⟩
abbrev main_while0b_c_34 : Ref sig .tc := ⟨.hbm, 81, rfl⟩
abbrev main_while0b_v70 : Ref sig .tc := ⟨.hbm, 82, rfl⟩
abbrev main_while0b_v71 : Ref sig .tc := ⟨.hbm, 83, rfl⟩
abbrev main_while0b_c_35 : Ref sig .tc := ⟨.hbm, 84, rfl⟩
abbrev main_while0b_v72 : Ref sig .tc := ⟨.hbm, 85, rfl⟩
abbrev main_while0b_v73 : Ref sig .tc := ⟨.hbm, 86, rfl⟩
abbrev main_while0b_c_36 : Ref sig .tc := ⟨.hbm, 87, rfl⟩
abbrev main_while0b_v74 : Ref sig .tc := ⟨.hbm, 88, rfl⟩
abbrev main_while0b_v75 : Ref sig .tc := ⟨.hbm, 89, rfl⟩
abbrev main_while0b_v76 : Ref sig .tc := ⟨.hbm, 90, rfl⟩
abbrev main_while0b_v77 : Ref sig .tc := ⟨.hbm, 91, rfl⟩
abbrev main_while0b_v78 : Ref sig .tc := ⟨.hbm, 92, rfl⟩
abbrev main_while0b_v79 : Ref sig .tc := ⟨.hbm, 93, rfl⟩
abbrev main_while0b_v80 : Ref sig .tc := ⟨.hbm, 94, rfl⟩
abbrev main_while0b_v81 : Ref sig .tc := ⟨.hbm, 95, rfl⟩
abbrev main_while0b_cst_37 : Ref sig .tc := ⟨.hbm, 96, rfl⟩
abbrev main_while0b_v82 : Ref sig .tc := ⟨.hbm, 97, rfl⟩
abbrev main_while0b_v83 : Ref sig .tc := ⟨.hbm, 98, rfl⟩
abbrev main_while0b_v84 : Ref sig .tc := ⟨.hbm, 99, rfl⟩
abbrev main_while0b_v85 : Ref sig .tc := ⟨.hbm, 100, rfl⟩
abbrev main_while0b_v86 : Ref sig .tc := ⟨.hbm, 101, rfl⟩
abbrev main_while0b_cst_38 : Ref sig .tc := ⟨.hbm, 102, rfl⟩
abbrev main_while0b_v87 : Ref sig .tc := ⟨.hbm, 103, rfl⟩
abbrev main_while0b_cst_39 : Ref sig .tc := ⟨.hbm, 104, rfl⟩
abbrev main_while0b_v88 : Ref sig .tc := ⟨.hbm, 105, rfl⟩
abbrev main_while0b_v89 : Ref sig .tc := ⟨.hbm, 106, rfl⟩
abbrev main_while0b_cst_40 : Ref sig .tc := ⟨.hbm, 107, rfl⟩
abbrev main_while0b_v90 : Ref sig .tc := ⟨.hbm, 108, rfl⟩
abbrev main_while0b_v91 : Ref sig .tc := ⟨.hbm, 109, rfl⟩
abbrev main_while0b_v92 : Ref sig .tc := ⟨.hbm, 110, rfl⟩
abbrev main_while0b_cst_41 : Ref sig .tc := ⟨.hbm, 111, rfl⟩
abbrev main_while0b_v93 : Ref sig .tc := ⟨.hbm, 112, rfl⟩
abbrev main_while0b_v94 : Ref sig .tc := ⟨.hbm, 113, rfl⟩
abbrev main_while0b_cst_42 : Ref sig .tc := ⟨.hbm, 114, rfl⟩
abbrev main_while0b_v95 : Ref sig .tc := ⟨.hbm, 115, rfl⟩
abbrev main_while0b_v96 : Ref sig .tc := ⟨.hbm, 116, rfl⟩
abbrev main_while0b_v97 : Ref sig .tc := ⟨.hbm, 117, rfl⟩
abbrev main_while0b_v98 : Ref sig .tc := ⟨.hbm, 118, rfl⟩
abbrev main_while0b_v99 : Ref sig .tc := ⟨.hbm, 119, rfl⟩
abbrev main_while0b_cst_43 : Ref sig .tc := ⟨.hbm, 120, rfl⟩
abbrev main_while0b_v100 : Ref sig .tc := ⟨.hbm, 121, rfl⟩
abbrev main_while0b_v101 : Ref sig .tc := ⟨.hbm, 122, rfl⟩
abbrev main_while0b_v102 : Ref sig .tc := ⟨.hbm, 123, rfl⟩
abbrev main_while0b_v103 : Ref sig .tc := ⟨.hbm, 124, rfl⟩
abbrev main_while0b_v104 : Ref sig .tc := ⟨.hbm, 125, rfl⟩
abbrev main_while0b_v105 : Ref sig .tc := ⟨.hbm, 126, rfl⟩
abbrev main_while0b_cst_44 : Ref sig .tc := ⟨.hbm, 127, rfl⟩
abbrev main_while0b_v106 : Ref sig .tc := ⟨.hbm, 128, rfl⟩
abbrev main_while0b_v107 : Ref sig .tc := ⟨.hbm, 129, rfl⟩
abbrev main_while0b_v108 : Ref sig .tc := ⟨.hbm, 130, rfl⟩
abbrev main_while0b_v109 : Ref sig .tc := ⟨.hbm, 131, rfl⟩
abbrev main_while0b_v110 : Ref sig .tc := ⟨.hbm, 132, rfl⟩
abbrev main_while0b_v111 : Ref sig .tc := ⟨.hbm, 133, rfl⟩
abbrev main_while0b_v112 : Ref sig .tc := ⟨.hbm, 134, rfl⟩
abbrev main_while0b_cst_45 : Ref sig .tc := ⟨.hbm, 135, rfl⟩
abbrev main_while0b_v113 : Ref sig .tc := ⟨.hbm, 136, rfl⟩
abbrev main_while0b_v114 : Ref sig .tc := ⟨.hbm, 137, rfl⟩
abbrev main_while0b_v115 : Ref sig .tc := ⟨.hbm, 138, rfl⟩
abbrev main_while0b_cst_46 : Ref sig .tc := ⟨.hbm, 139, rfl⟩
abbrev main_while0b_v116 : Ref sig .tc := ⟨.hbm, 140, rfl⟩
abbrev main_while0b_v117 : Ref sig .tc := ⟨.hbm, 141, rfl⟩
abbrev main_while0b_cst_47 : Ref sig .tc := ⟨.hbm, 142, rfl⟩
abbrev main_while0b_v118 : Ref sig .tc := ⟨.hbm, 143, rfl⟩
abbrev main_while0b_cst_48 : Ref sig .tc := ⟨.hbm, 144, rfl⟩
abbrev main_while0b_call1_v0 : Ref sig .tc := ⟨.hbm, 145, rfl⟩
abbrev main_while0b_call1_v1 : Ref sig .tc := ⟨.hbm, 146, rfl⟩
abbrev main_while0b_v119 : Ref sig .tc := ⟨.hbm, 147, rfl⟩
abbrev main_while0b_cst_49 : Ref sig .tc := ⟨.hbm, 148, rfl⟩
abbrev main_while0b_v120 : Ref sig .tc := ⟨.hbm, 149, rfl⟩
abbrev main_while0b_v121 : Ref sig .tc := ⟨.hbm, 150, rfl⟩
abbrev main_while0b_v122 : Ref sig .tc := ⟨.hbm, 151, rfl⟩
abbrev main_while0b_v123 : Ref sig .tc := ⟨.hbm, 152, rfl⟩
abbrev main_while0b_v124 : Ref sig .tc := ⟨.hbm, 153, rfl⟩
abbrev main_while0b_c_50 : Ref sig .tc := ⟨.hbm, 154, rfl⟩
abbrev main_while0b_v125 : Ref sig .tc := ⟨.hbm, 155, rfl⟩
abbrev main_while0b_c_51 : Ref sig .tc := ⟨.hbm, 156, rfl⟩
abbrev main_while0b_v126 : Ref sig .tc := ⟨.hbm, 157, rfl⟩
abbrev main_while0b_c_52 : Ref sig .tc := ⟨.hbm, 158, rfl⟩
abbrev main_while0b_v127 : Ref sig .tc := ⟨.hbm, 159, rfl⟩
abbrev main_while0b_v128 : Ref sig .tc := ⟨.hbm, 160, rfl⟩
abbrev main_while0b_c_53 : Ref sig .tc := ⟨.hbm, 161, rfl⟩
abbrev main_while0b_v129 : Ref sig .tc := ⟨.hbm, 162, rfl⟩
abbrev main_while0b_v130 : Ref sig .tc := ⟨.hbm, 163, rfl⟩
abbrev main_while0b_c_54 : Ref sig .tc := ⟨.hbm, 164, rfl⟩
abbrev main_while0b_v131 : Ref sig .tc := ⟨.hbm, 165, rfl⟩
abbrev main_while0b_v132 : Ref sig .tc := ⟨.hbm, 166, rfl⟩
abbrev main_while0b_c_55 : Ref sig .tc := ⟨.hbm, 167, rfl⟩
abbrev main_while0b_v133 : Ref sig .tc := ⟨.hbm, 168, rfl⟩
abbrev main_while0b_v134 : Ref sig .tc := ⟨.hbm, 169, rfl⟩
abbrev main_while0b_c_56 : Ref sig .tc := ⟨.hbm, 170, rfl⟩
abbrev main_while0b_v135 : Ref sig .tc := ⟨.hbm, 171, rfl⟩
abbrev main_while0b_c_57 : Ref sig .tc := ⟨.hbm, 172, rfl⟩
abbrev main_while0b_v136 : Ref sig .tc := ⟨.hbm, 173, rfl⟩
abbrev main_cst_5 : Ref sig .tc := ⟨.hbm, 174, rfl⟩
abbrev main_v9 : Ref sig .tc := ⟨.hbm, 175, rfl⟩
abbrev main_v10 : Ref sig .tc := ⟨.hbm, 176, rfl⟩
abbrev main_v11 : Ref sig .tc := ⟨.hbm, 177, rfl⟩
abbrev main_v12 : Ref sig .tc := ⟨.hbm, 178, rfl⟩
abbrev main_v13 : Ref sig .tc := ⟨.hbm, 179, rfl⟩
abbrev main_v14 : Ref sig .tc := ⟨.hbm, 180, rfl⟩
abbrev main_v15 : Ref sig .tc := ⟨.hbm, 181, rfl⟩
abbrev main_v16 : Ref sig .tc := ⟨.hbm, 182, rfl⟩
abbrev main_v17 : Ref sig .tc := ⟨.hbm, 183, rfl⟩
abbrev main_v18 : Ref sig .tc := ⟨.hbm, 184, rfl⟩
abbrev main_v19 : Ref sig .tc := ⟨.hbm, 185, rfl⟩
abbrev main_v20 : Ref sig .tc := ⟨.hbm, 186, rfl⟩
abbrev main_cst_6 : Ref sig .tc := ⟨.hbm, 187, rfl⟩
abbrev main_v21 : Ref sig .tc := ⟨.hbm, 188, rfl⟩
abbrev main_cst_7 : Ref sig .tc := ⟨.hbm, 189, rfl⟩
abbrev main_v22 : Ref sig .tc := ⟨.hbm, 190, rfl⟩
abbrev main_v23 : Ref sig .tc := ⟨.hbm, 191, rfl⟩
abbrev main_v24 : Ref sig .tc := ⟨.hbm, 192, rfl⟩
abbrev main_v25 : Ref sig .tc := ⟨.hbm, 193, rfl⟩
abbrev main_v26 : Ref sig .tc := ⟨.hbm, 194, rfl⟩
abbrev main_v27 : Ref sig .tc := ⟨.hbm, 195, rfl⟩
abbrev main_cst_8 : Ref sig .tc := ⟨.hbm, 196, rfl⟩
abbrev main_v28 : Ref sig .tc := ⟨.hbm, 197, rfl⟩
abbrev main_v29 : Ref sig .tc := ⟨.hbm, 198, rfl⟩
abbrev main_v30 : Ref sig .tc := ⟨.hbm, 199, rfl⟩
abbrev main_v31 : Ref sig .tc := ⟨.hbm, 200, rfl⟩
abbrev main_v32 : Ref sig .tc := ⟨.hbm, 201, rfl⟩
abbrev main_v33 : Ref sig .tc := ⟨.hbm, 202, rfl⟩

abbrev nD : Nat := 1
abbrev τ : Topo := Topo.v7x

variable {F : FTy → Type} [FloatOps F]

abbrev main_while0_count : Scf.Loop 32 := ⟨0#32, 16384#32, 1#32⟩
-- ==== Proof.Lanes.lean ====
/- Facts about sixteen-lane vectors that no program enters: what a masked scatter leaves at one
   element, and the 32-bit words that stand for small naturals. -/
module

public import Idealize.ShloMosaic.Lib.SparseCore.Ops
public import Idealize.ShloMosaic.Lib.WordArith

@[expose] public section

namespace Cert.Lanes

open Idealize.ShloMosaic

/-! ## A masked scatter at one element -/

variable {F : FTy → Type} [FloatOps F]

/-- Folding guarded writes over a list: the element ends at `w` when every write that meets it
    writes `w`, and it holds `w` to begin with or some write meets it. -/
theorem foldl_guard {α ι β : Type} (step : (β → α) → ι → β → α) (hit : ι → Prop) (j : β) (w : α)
    (h1 : ∀ g k, hit k → step g k j = w) (h2 : ∀ g k, ¬ hit k → step g k j = g j) :
    ∀ (l : List ι) (g : β → α), (g j = w ∨ ∃ k ∈ l, hit k) → l.foldl step g j = w := by
  intro l
  induction l with
  | nil => intro g h; rcases h with h | ⟨k, hk, _⟩
           · exact h
           · simp at hk
  | cons a l ih =>
      intro g h
      refine ih _ ?_
      by_cases ha : hit a
      · exact Or.inl (h1 g a ha)
      · rcases h with h | ⟨k, hk, hh⟩
        · exact Or.inl ((h2 g a ha).trans h)
        · rcases List.mem_cons.mp hk with rfl | hk
          · exact absurd hh ha
          · exact Or.inr ⟨k, hk, hh⟩

/-- Where no write of the list meets the element it keeps its first value. -/
theorem foldl_guard_miss {α ι β : Type} (step : (β → α) → ι → β → α) (hit : ι → Prop) (j : β)
    (h2 : ∀ g k, ¬ hit k → step g k j = g j) :
    ∀ (l : List ι) (g : β → α), (∀ k ∈ l, ¬ hit k) → l.foldl step g j = g j := by
  intro l
  induction l with
  | nil => intro g _; rfl
  | cons a l ih =>
      intro g h
      exact (ih _ fun k hk => h k (List.mem_cons_of_mem _ hk)).trans (h2 g a (h a List.mem_cons_self))

variable {n : Fin 1 → ℕ} {d : Fin 1 → ℕ} {e : EltTy}

private theorem step_hit (v : Vec F ⟨1, d⟩ e) (mask : IVec ⟨1, d⟩ 1) (ix : IVec ⟨1, d⟩ 32)
    (h : ∀ a x, ((![ix] : Fin 1 → IVec ⟨1, d⟩ 32) a x).toNat < n a) (j : (⟨1, n⟩ : Shape).Idx) (k : Fin (d 0)) :
    (∀ a, (j a).val = (idxAt (s := ⟨1, n⟩) ![ix] h (Shape.ofLane k) a).val) ↔ (ix (Shape.ofLane k)).toNat = (j 0).val := by
  constructor
  · intro hh; exact (hh 0).symm
  · intro hh a
    rw [Fin.eq_zero a]; exact hh.symm

/-- **The masked scatter at one element.** If every live lane whose index is `j` carries `w`, and
    either the element was `w` already or some live lane's index is `j`, it ends at `w`. -/
theorem storeIdx_eq (f : Vec F ⟨1, n⟩ e) (ix : IVec ⟨1, d⟩ 32) (v : Vec F ⟨1, d⟩ e) (mask : IVec ⟨1, d⟩ 1)
    (h : ∀ a x, ((![ix] : Fin 1 → IVec ⟨1, d⟩ 32) a x).toNat < n a) (j : (⟨1, n⟩ : Shape).Idx) (w : Elt F e)
    (hv : ∀ k : Fin (d 0), mask (Shape.ofLane k) = 1 → (ix (Shape.ofLane k)).toNat = (j 0).val → v (Shape.ofLane k) = w)
    (hw : f j = w ∨ ∃ k : Fin (d 0), mask (Shape.ofLane k) = 1 ∧ (ix (Shape.ofLane k)).toNat = (j 0).val) :
    storeIdx (s := ⟨1, n⟩) f ![ix] v mask false h j = w := by
  unfold storeIdx
  refine foldl_guard (hit := fun k : Fin (d 0) => mask (Shape.ofLane k) = 1 ∧ (ix (Shape.ofLane k)).toNat = (j 0).val)
    _ j w ?_ ?_ _ f (hw.imp id fun ⟨k, hk⟩ => ⟨k, List.mem_finRange k, hk⟩)
  · intro g k hk
    simp only [hk.1, if_true, step_hit v mask ix h j k, hk.2, Bool.false_eq_true, if_false]
    exact hv k hk.1 hk.2
  · intro g k hk
    by_cases hm : mask (Shape.ofLane k) = 1
    · have : ¬ (ix (Shape.ofLane k)).toNat = (j 0).val := fun hh => hk ⟨hm, hh⟩
      simp only [hm, if_true, step_hit v mask ix h j k, this, if_false]
    · simp only [hm, if_false]

/-- An element no live lane names is kept. -/
theorem storeIdx_keep (f : Vec F ⟨1, n⟩ e) (ix : IVec ⟨1, d⟩ 32) (v : Vec F ⟨1, d⟩ e) (mask : IVec ⟨1, d⟩ 1)
    (h : ∀ a x, ((![ix] : Fin 1 → IVec ⟨1, d⟩ 32) a x).toNat < n a) (j : (⟨1, n⟩ : Shape).Idx)
    (hm : ∀ k : Fin (d 0), mask (Shape.ofLane k) = 1 → (ix (Shape.ofLane k)).toNat ≠ (j 0).val) :
    storeIdx (s := ⟨1, n⟩) f ![ix] v mask false h j = f j :=
  storeIdx_eq f ix v mask h j (f j) (fun k h1 h2 => absurd h2 (hm k h1)) (Or.inl rfl)

/-! ## Words for small naturals -/

theorem add_ofNat (a b : ℕ) : BitVec.ofNat 32 a + BitVec.ofNat 32 b = BitVec.ofNat 32 (a + b) := by
  apply BitVec.eq_of_toNat_eq; simp

theorem mul_ofNat (a b : ℕ) : BitVec.ofNat 32 a * BitVec.ofNat 32 b = BitVec.ofNat 32 (a * b) := by
  apply BitVec.eq_of_toNat_eq; simp

theorem sub_ofNat (a b : ℕ) (h : b ≤ a) : BitVec.ofNat 32 a - BitVec.ofNat 32 b = BitVec.ofNat 32 (a - b) := by
  obtain ⟨c, rfl⟩ := Nat.exists_eq_add_of_le h
  rw [Nat.add_sub_cancel_left, Nat.add_comm, ← add_ofNat, BitVec.add_sub_cancel]

theorem toNat_ofNat_lt (a : ℕ) (h : a < 2 ^ 32) : (BitVec.ofNat 32 a).toNat = a := by
  rw [BitVec.toNat_ofNat, Nat.mod_eq_of_lt h]

theorem slt_ofNat (a b : ℕ) (ha : a < 2 ^ 31) (hb : b < 2 ^ 31) :
    (BitVec.ofNat 32 a).slt (BitVec.ofNat 32 b) = decide (a < b) := by
  rw [BitVec.slt, WordArith.toInt_ofNat_small a ha, WordArith.toInt_ofNat_small b hb]; simp

theorem sle_ofNat (a b : ℕ) (ha : a < 2 ^ 31) (hb : b < 2 ^ 31) :
    (BitVec.ofNat 32 a).sle (BitVec.ofNat 32 b) = decide (a ≤ b) := by
  rw [BitVec.sle, WordArith.toInt_ofNat_small a ha, WordArith.toInt_ofNat_small b hb]; simp

theorem minsi_ofNat (a b : ℕ) (ha : a < 2 ^ 31) (hb : b < 2 ^ 31) :
    IntOp.minsi (BitVec.ofNat 32 a) (BitVec.ofNat 32 b) = BitVec.ofNat 32 (min a b) := by
  unfold IntOp.minsi
  rw [slt_ofNat a b ha hb]
  by_cases h : a < b
  · simp [h, Nat.min_eq_left h.le]
  · simp [h, Nat.min_eq_right (Nat.le_of_not_lt h)]

theorem cmpi_sle_ofNat (a b : ℕ) (ha : a < 2 ^ 31) (hb : b < 2 ^ 31) :
    (IntOp.cmpi .sle (BitVec.ofNat 32 a) (BitVec.ofNat 32 b) = 1) ↔ a ≤ b := by
  unfold IntOp.cmpi
  rw [WordArith.ofBool_eq_numeral_one_iff, sle_ofNat a b ha hb, decide_eq_true_iff]

theorem cmpi_eq_ofNat (a b : ℕ) (ha : a < 2 ^ 32) (hb : b < 2 ^ 32) :
    (IntOp.cmpi .eq (BitVec.ofNat 32 a) (BitVec.ofNat 32 b) = 1) ↔ a = b := by
  unfold IntOp.cmpi
  rw [WordArith.ofBool_eq_numeral_one_iff, beq_iff_eq]
  constructor
  · intro h
    have := congrArg BitVec.toNat h
    rwa [toNat_ofNat_lt a ha, toNat_ofNat_lt b hb] at this
  · rintro rfl; rfl

end Cert.Lanes
-- ==== Proof.Rows.lean ====
/- The rows of a table of 32 rows: row `i` as a rectangle, as a set of words, and as the vector a
   tile's transfer names. -/
module

public import Idealize.ShloMosaic.Lib.SparseCore.Quiescent

@[expose] public section

noncomputable section

namespace Cert.Rows

open Idealize.ShloMosaic

variable (n : ℕ)

/-- 32 rows of `n` words; one row; a row as a vector. -/
abbrev Table : Shape := ⟨2, ![32, n]⟩
abbrev OneRow : Shape := ⟨2, ![1, n]⟩
abbrev Line : Shape := ⟨1, ![n]⟩

theorem hdiv : 32 ∣ (Table n).size 0 := ⟨1, rfl⟩
abbrev row (i : Fin 32) : Rect (Table n) := Rect.part (s := Table n) (a₀ := 0) (hdiv n) i
abbrev rowSet (i : Fin 32) : Finset (Table n).Idx := (row n i).set

theorem rows_disjoint : ∀ i j : Fin 32, i ≠ j → Disjoint (rowSet n i) (rowSet n j) :=
  fun _ _ h => Rect.part_disjoint (hdiv n) h
theorem rows_cover : Finset.univ.biUnion (rowSet n) = Finset.univ := Rect.biUnion_part (hdiv n)

/-- The unit rectangle at row `b` is row `b`. -/
theorem unit_eq_row {off : Fin 2 → ℕ} {inb} (i : Fin 32) (h : off = ![i.val, 0]) :
    Rect.unit (s := Table n) off (OneRow n).size inb = row n i := by
  subst h
  unfold row Rect.part Rect.block
  congr 1 <;> funext a
  · match a with
    | 0 => simp [Shape.partIx, Shape.partSize]
    | 1 => simp [Shape.partIx, Shape.partSize]
  · match a with
    | 0 => simp [Shape.partSize]
    | 1 => simp [Shape.partSize]

theorem mem_rowSet (i : Fin 32) (x : (Table n).Idx) : x ∈ rowSet n i ↔ (x 0).val = i.val := by
  have inb : ∀ a, (![i.val, 0] : Fin 2 → ℕ) a + (OneRow n).size a ≤ (Table n).size a := by
    intro a
    match a with
    | 0 => exact i.isLt
    | 1 => exact le_of_eq (Nat.zero_add _)
  unfold rowSet
  rw [← unit_eq_row n (inb := inb) i rfl, Rect.mem_set_unit]
  constructor
  · intro h
    have := h 0
    simp at this
    omega
  · intro h a
    match a with
    | 0 => simp; omega
    | 1 => simpa using (x 1).isLt

/-- Where word `j` of the vector a transfer names lies in the table. -/
theorem line_emb {off : Fin 2 → ℕ} {inb} (b : ℕ) (h : off = ![b, 0]) (hn : (Line n).numel = (OneRow n).numel) (j : (Line n).Idx) :
    ((Rect.unit (s := Table n) off (OneRow n).size inb).emb (Shape.reshapeEquiv hn j) 0).val = b
      ∧ ((Rect.unit (s := Table n) off (OneRow n).size inb).emb (Shape.reshapeEquiv hn j) 1).val = (j 0).val := by
  subst h
  have e : Shape.reshapeEquiv hn j = (Fin.cons ⟨0, Nat.one_pos⟩ j : (OneRow n).Idx) := Shape.reshapeEquiv_cons_one hn j
  rw [e]
  constructor
  · show b + 1 * 0 = b
    rfl
  · show 0 + 1 * (j 0).val = _
    omega

/-- Two places of the table with the same coordinates. -/
theorem table_ext {x y : (Table n).Idx} (h0 : (x 0).val = (y 0).val) (h1 : (x 1).val = (y 1).val) : x = y := by
  funext a
  match a with
  | 0 => exact Fin.ext h0
  | 1 => exact Fin.ext h1

end Cert.Rows
-- ==== Proof.IdealIndex.lean ====
/- The index vectors of the tile's loops as naturals: which word of the tile's memory each lane of
   each trip reads or writes, and that all of them lie inside. -/
module

public import proofs.«01_k».proof.Proof.Gen.KernelIdeal.Skeleton
public import proofs.«01_k».proof.Proof.Lanes

@[expose] public section

noncomputable section

namespace Cert.Proof.KernelIdeal

open Idealize.ShloMosaic
open Cert.KernelIdeal Cert.KernelIdeal.Gen Cert.Lanes

/-- The lane numbers `0, …, 15`. -/
abbrev lanes : IVec S16 32 := iota .scVector S16 32 [0] iota_S16_d0_w32_scVector

theorem lanes_apply (x : S16.Idx) : lanes x = BitVec.ofNat 32 (x 0).val := by
  simp [lanes, iota]

theorem lane_lt (x : S16.Idx) : (x 0).val < 16 := (x 0).isLt

theorem iv_ofNat (a k : ℕ) : Scf.iv (BitVec.ofNat 32 a) 1#32 k = BitVec.ofNat 32 (a + k) := by
  show BitVec.ofNat 32 a + BitVec.ofNat 32 k * BitVec.ofNat 32 1 = _
  rw [mul_ofNat, add_ofNat, Nat.mul_one]

/-! ## Trip counts -/

theorem trips1 : k0_t1_loop.trips = 9 := by decide
theorem trips2 : k0_t2_loop.trips = 255 := by decide
theorem trips5 : k0_t5_loop.trips = 128 := by decide
theorem trips6 : k0_t6_loop.trips = 8 := by decide

/-- First and last row of antidiagonal `d`. -/
def rowLo (d : ℕ) : ℕ := max 1 (d - 128)
def rowHi (d : ℕ) : ℕ := min 128 (d - 1)

theorem lo_eq (t : Fin k0_t2_loop.trips) :
    Scalar.maxsi 1#32 (Scalar.subi (Scf.iv 2#32 1#32 t) 128#32) = BitVec.ofNat 32 (rowLo (2 + t)) := by
  revert t; decide +kernel

theorem hi_eq (t : Fin k0_t2_loop.trips) :
    Scalar.minsi 128#32 (Scalar.subi (Scf.iv 2#32 1#32 t) 1#32) = BitVec.ofNat 32 (rowHi (2 + t)) := by
  revert t; decide +kernel

theorem trips3 (t : Fin k0_t2_loop.trips) :
    (k0_t3_loop t).trips = (rowHi (2 + t) - rowLo (2 + t) + 16) / 16 := by
  revert t; decide +kernel

theorem trips4 (t : Fin k0_t2_loop.trips) : (k0_t4_loop t).trips = 0 := by
  revert t; decide +kernel

/-! ## The borders (first loop) -/

theorem pay35_apply (k : Fin k0_t1_loop.trips) (x : S16.Idx) :
    k0_pay35 k x = BitVec.ofNat 32 (16 * k.val + (x 0).val) := by
  show Scf.iv (BitVec.ofNat 32 0) 1#32 k * BitVec.ofNat 32 16 + lanes x = _
  rw [iv_ofNat, mul_ofNat, lanes_apply, add_ofNat]
  congr 1; omega

theorem pay38_apply (k : Fin k0_t1_loop.trips) (x : S16.Idx) :
    k0_pay38 k x = BitVec.ofNat 32 (16 * k.val + (x 0).val + 1) := by
  show Scf.iv (BitVec.ofNat 32 0) 1#32 k * BitVec.ofNat 32 16 + lanes x + BitVec.ofNat 32 1 = _
  rw [iv_ofNat, mul_ofNat, lanes_apply, add_ofNat, add_ofNat]
  congr 1; omega

theorem pay39_apply (k : Fin k0_t1_loop.trips) (x : S16.Idx) :
    k0_pay39 k x = BitVec.ofNat 32 (min (16 * k.val + (x 0).val + 1) 128 * 129) := by
  have hk : k.val < 9 := trips1 ▸ k.isLt
  have hx := lane_lt x
  show IntOp.minsi (k0_pay38 k x) (BitVec.ofNat 32 128) * BitVec.ofNat 32 129 = _
  rw [pay38_apply, minsi_ofNat _ _ (by omega) (by omega), mul_ofNat]

theorem pay37_iff (k : Fin k0_t1_loop.trips) (x : S16.Idx) :
    k0_pay37 (k0_pay35 k) x = 1 ↔ 16 * k.val + (x 0).val ≤ 128 := by
  have hk : k.val < 9 := trips1 ▸ k.isLt
  have hx := lane_lt x
  show IntOp.cmpi .sle (k0_pay35 k x) (BitVec.ofNat 32 128) = 1 ↔ _
  rw [pay35_apply, cmpi_sle_ofNat _ _ (by omega) (by omega)]

theorem pay40_iff (k : Fin k0_t1_loop.trips) (x : S16.Idx) :
    k0_pay40 k x = 1 ↔ 16 * k.val + (x 0).val + 1 ≤ 128 := by
  have hk : k.val < 9 := trips1 ▸ k.isLt
  have hx := lane_lt x
  show IntOp.cmpi .sle (k0_pay38 k x) (BitVec.ofNat 32 128) = 1 ↔ _
  rw [pay38_apply, cmpi_sle_ofNat _ _ (by omega) (by omega)]

/-- A vector of words below `n` indexes a memory of `n` words. -/
theorem inb_of (n : ℕ) (v : IVec S16 32) (p : S16.Idx → ℕ) (hv : ∀ x, v x = BitVec.ofNat 32 (p x))
    (hn : n ≤ 2 ^ 32) (hp : ∀ x, p x < n) (sz : Fin 1 → ℕ) (hs : sz = ![n]) :
    ∀ a x, ((![v] : Fin 1 → IVec S16 32) a x).toNat < sz a := by
  subst hs
  intro a x
  rw [Fin.eq_zero a]
  show (v x).toNat < n
  rw [hv, toNat_ofNat_lt _ (lt_of_lt_of_le (hp x) hn)]
  exact hp x

theorem chk1 (k : Fin k0_t1_loop.trips) : k0_chk1 (k0_pay35 k) :=
  inb_of 16648 _ _ (pay35_apply k) (by omega)
    (fun x => by have := lane_lt x; have : k.val < 9 := trips1 ▸ k.isLt; omega) _ rfl

theorem chk2 (k : Fin k0_t1_loop.trips) : k0_chk2 (k0_pay39 k) :=
  inb_of 16648 _ _ (pay39_apply k) (by omega) (fun x => by omega) _ rfl

/-! ## One chunk of an antidiagonal (second loop) -/

section Chunk
variable (t : Fin k0_t2_loop.trips) (k : Fin (k0_t3_loop t).trips)

theorem t2_lt : t.val < 255 := trips2 ▸ t.isLt

theorem t3_lt : 16 * k.val < rowHi (2 + t) - rowLo (2 + t) + 1 := by
  have := lt_of_lt_of_eq k.isLt (trips3 t)
  have hle : rowLo (2 + t) ≤ rowHi (2 + t) := by have := t2_lt t; unfold rowLo rowHi; omega
  omega

/-- The row a lane stands for, and the row it works on (held at the last one). -/
def rowAt (x : S16.Idx) : ℕ := rowLo (2 + t) + 16 * k.val + (x 0).val
def rowCl (x : S16.Idx) : ℕ := min (rowAt t k x) (rowHi (2 + t))

theorem rowCl_bounds (x : S16.Idx) : 1 ≤ rowCl t k x ∧ rowCl t k x ≤ 128 ∧ 1 ≤ 2 + t.val - rowCl t k x
    ∧ 2 + t.val - rowCl t k x ≤ 128 ∧ rowCl t k x ≤ 2 + t.val := by
  have := t2_lt t; have := t3_lt t k; have := lane_lt x
  unfold rowCl rowAt rowLo rowHi at *; omega

/-- The index vectors of the chunk at hand, in the words the program passes. -/
abbrev iRow : IVec S16 32 := k0_pay1 lanes t (BitVec.ofNat 32 (rowLo (2 + t))) 0#32 1#32 k
abbrev iCell : IVec S16 32 :=
  k0_pay3 lanes t (Scf.iv 2#32 1#32 t) (BitVec.ofNat 32 (rowLo (2 + t))) (BitVec.ofNat 32 (rowHi (2 + t))) 0#32 1#32 k
abbrev iWord : IVec S16 32 :=
  k0_pay7 lanes t (Scf.iv 2#32 1#32 t) (BitVec.ofNat 32 (rowLo (2 + t))) (BitVec.ofNat 32 (rowHi (2 + t))) 0#32 1#32 k

theorem iRow_apply (x : S16.Idx) : iRow t k x = BitVec.ofNat 32 (rowAt t k x) := by
  show BitVec.ofNat 32 (rowLo (2 + t)) + Scf.iv (BitVec.ofNat 32 0) 1#32 k * BitVec.ofNat 32 16 + lanes x = _
  rw [iv_ofNat, mul_ofNat, lanes_apply, add_ofNat, add_ofNat]
  congr 1; unfold rowAt; omega

theorem pay2_apply (x : S16.Idx) :
    k0_pay2 lanes t (BitVec.ofNat 32 (rowLo (2 + t))) (BitVec.ofNat 32 (rowHi (2 + t))) 0#32 1#32 k x
      = BitVec.ofNat 32 (rowCl t k x) := by
  show IntOp.minsi (iRow t k x) (BitVec.ofNat 32 (rowHi (2 + t))) = _
  have := t2_lt t; have := t3_lt t k; have := lane_lt x
  rw [iRow_apply, minsi_ofNat]
  · rfl
  · unfold rowAt rowLo rowHi at *; omega
  · unfold rowHi; omega

theorem iCell_apply (x : S16.Idx) : iCell t k x = BitVec.ofNat 32 (rowCl t k x * 128 + (2 + t)) := by
  show k0_pay2 lanes t (BitVec.ofNat 32 (rowLo (2 + t))) (BitVec.ofNat 32 (rowHi (2 + t))) 0#32 1#32 k x
    * BitVec.ofNat 32 128 + Scf.iv (BitVec.ofNat 32 2) 1#32 t = _
  rw [pay2_apply, mul_ofNat, iv_ofNat, add_ofNat]

theorem iWord_apply (x : S16.Idx) : iWord t k x = BitVec.ofNat 32 (rowCl t k x * 127 + (2 + t) - 129) := by
  show k0_pay2 lanes t (BitVec.ofNat 32 (rowLo (2 + t))) (BitVec.ofNat 32 (rowHi (2 + t))) 0#32 1#32 k x
    * BitVec.ofNat 32 127 + Scf.iv (BitVec.ofNat 32 2) 1#32 t - BitVec.ofNat 32 129 = _
  have := rowCl_bounds t k x
  rw [pay2_apply, mul_ofNat, iv_ofNat, add_ofNat, sub_ofNat _ _ (by omega)]

theorem iUp_apply (x : S16.Idx) : k0_pay4 (iCell t k) x = BitVec.ofNat 32 (rowCl t k x * 128 + (2 + t) - 129) := by
  show iCell t k x - BitVec.ofNat 32 129 = _
  have := rowCl_bounds t k x
  rw [iCell_apply, sub_ofNat _ _ (by omega)]

theorem iLeft_apply (x : S16.Idx) : k0_pay5 (iCell t k) x = BitVec.ofNat 32 (rowCl t k x * 128 + (2 + t) - 1) := by
  show iCell t k x - BitVec.ofNat 32 1 = _
  rw [iCell_apply, sub_ofNat _ _ (by omega)]

theorem iDiag_apply (x : S16.Idx) : k0_pay6 (iCell t k) x = BitVec.ofNat 32 (rowCl t k x * 128 + (2 + t) - 130) := by
  show iCell t k x - BitVec.ofNat 32 130 = _
  have := rowCl_bounds t k x
  rw [iCell_apply, sub_ofNat _ _ (by omega)]

theorem live_iff (x : S16.Idx) : k0_pay42 t (iRow t k) x = 1 ↔ rowAt t k x ≤ rowHi (2 + t) := by
  show IntOp.cmpi .sle (iRow t k x) (Scalar.minsi 128#32 (Scalar.subi (Scf.iv 2#32 1#32 t) 1#32)) = 1 ↔ _
  have := t2_lt t; have := t3_lt t k; have := lane_lt x
  rw [hi_eq, iRow_apply, cmpi_sle_ofNat]
  · unfold rowAt rowLo rowHi at *; omega
  · unfold rowHi; omega

theorem chk7 : k0_chk7 (iCell t k) :=
  inb_of 16648 _ _ (iCell_apply t k) (by omega) (fun x => by have := rowCl_bounds t k x; have := t2_lt t; omega) _ rfl
theorem chk3 : k0_chk3 (k0_pay4 (iCell t k)) :=
  inb_of 16648 _ _ (iUp_apply t k) (by omega) (fun x => by have := rowCl_bounds t k x; have := t2_lt t; omega) _ rfl
theorem chk4 : k0_chk4 (k0_pay5 (iCell t k)) :=
  inb_of 16648 _ _ (iLeft_apply t k) (by omega) (fun x => by have := rowCl_bounds t k x; have := t2_lt t; omega) _ rfl
theorem chk5 : k0_chk5 (k0_pay6 (iCell t k)) :=
  inb_of 16648 _ _ (iDiag_apply t k) (by omega) (fun x => by have := rowCl_bounds t k x; have := t2_lt t; omega) _ rfl
theorem chk6 : k0_chk6 (iWord t k) :=
  inb_of 16384 _ _ (iWord_apply t k) (by omega) (fun x => by have := rowCl_bounds t k x; have := t2_lt t; omega) _ rfl

end Chunk

/-! ## One chunk of the softmax (third loop) -/

section Soft
variable (t : Fin k0_t5_loop.trips) (k : Fin k0_t6_loop.trips)

theorem t5_lt : t.val < 128 := trips5 ▸ t.isLt
theorem t6_lt : k.val < 8 := trips6 ▸ k.isLt

/-- The words the program passes to the chunk: the row and its first cell. -/
abbrev sRow : BitVec 32 := Scf.iv 1#32 1#32 t
abbrev sBase : BitVec 32 := Scalar.muli (Scf.iv 1#32 1#32 t) 129#32

/-- The column (from `0`) a lane stands for. -/
def colAt (x : S16.Idx) : ℕ := 16 * k.val + (x 0).val

theorem colAt_lt (x : S16.Idx) : colAt k x < 128 := by
  have := t6_lt k; have := lane_lt x; unfold colAt; omega

theorem sBase_eq : sBase t = BitVec.ofNat 32 ((1 + t) * 129) := by
  show Scf.iv (BitVec.ofNat 32 1) 1#32 t * BitVec.ofNat 32 129 = _
  rw [iv_ofNat, mul_ofNat]

theorem pay21_apply (x : S16.Idx) : k0_pay21 lanes 0#32 1#32 k x = BitVec.ofNat 32 (colAt k x + 1) := by
  show Scf.iv (BitVec.ofNat 32 0) 1#32 k * BitVec.ofNat 32 16 + lanes x + BitVec.ofNat 32 1 = _
  rw [iv_ofNat, mul_ofNat, lanes_apply, add_ofNat, add_ofNat]
  congr 1; unfold colAt; omega

abbrev sWord : IVec S16 32 := k0_pay22 lanes (sRow t) 0#32 1#32 k

theorem sWord_apply (x : S16.Idx) : sWord t k x = BitVec.ofNat 32 (t * 128 + colAt k x) := by
  show (Scf.iv (BitVec.ofNat 32 1) 1#32 t - BitVec.ofNat 32 1) * BitVec.ofNat 32 128
    + (k0_pay21 lanes 0#32 1#32 k x - BitVec.ofNat 32 1) = _
  rw [iv_ofNat, pay21_apply, sub_ofNat _ _ (by omega), sub_ofNat _ _ (by omega), mul_ofNat, add_ofNat]
  congr 1; omega

theorem sUp_apply (x : S16.Idx) : k0_pay23 lanes (sBase t) 0#32 1#32 k x = BitVec.ofNat 32 (t * 129 + (colAt k x + 1)) := by
  show sBase t - BitVec.ofNat 32 129 + k0_pay21 lanes 0#32 1#32 k x = _
  rw [sBase_eq, pay21_apply, sub_ofNat _ _ (by omega), add_ofNat]
  congr 1; omega

theorem sLeft_apply (x : S16.Idx) : k0_pay24 lanes (sBase t) 0#32 1#32 k x = BitVec.ofNat 32 ((t + 1) * 129 + colAt k x) := by
  show sBase t + k0_pay21 lanes 0#32 1#32 k x - BitVec.ofNat 32 1 = _
  rw [sBase_eq, pay21_apply, add_ofNat, sub_ofNat _ _ (by omega)]
  congr 1; omega

theorem sDiag_apply (x : S16.Idx) : k0_pay25 lanes (sBase t) 0#32 1#32 k x = BitVec.ofNat 32 (t * 129 + colAt k x) := by
  by_cases h0 : t.val = 0 ∧ colAt k x = 0
  · show sBase t - BitVec.ofNat 32 130 + k0_pay21 lanes 0#32 1#32 k x = _
    rw [sBase_eq, pay21_apply, h0.1, h0.2]; decide
  · show sBase t - BitVec.ofNat 32 130 + k0_pay21 lanes 0#32 1#32 k x = _
    rw [sBase_eq, pay21_apply, sub_eq_add_neg, add_right_comm, ← sub_eq_add_neg, add_ofNat, sub_ofNat _ _ (by omega)]
    congr 1; omega

theorem sOut0_apply (x : S16.Idx) : k0_pay46 (sWord t k) x = BitVec.ofNat 32 ((t * 128 + colAt k x) * 3) := by
  show sWord t k x * BitVec.ofNat 32 3 = _
  rw [sWord_apply, mul_ofNat]
theorem sOut1_apply (x : S16.Idx) : k0_pay48 (k0_pay46 (sWord t k)) x = BitVec.ofNat 32 ((t * 128 + colAt k x) * 3 + 1) := by
  show k0_pay46 (sWord t k) x + BitVec.ofNat 32 1 = _
  rw [sOut0_apply, add_ofNat]
theorem sOut2_apply (x : S16.Idx) : k0_pay50 (k0_pay46 (sWord t k)) x = BitVec.ofNat 32 ((t * 128 + colAt k x) * 3 + 2) := by
  show k0_pay46 (sWord t k) x + BitVec.ofNat 32 2 = _
  rw [sOut0_apply, add_ofNat]

theorem chk16 : k0_chk16 (sWord t k) :=
  have h := inb_of 16384 _ _ (sWord_apply t k) (by omega)
    (fun x => by have := colAt_lt k x; have := t5_lt t; omega) _ rfl
  ⟨h, h⟩
theorem chk13 : k0_chk13 (k0_pay23 lanes (sBase t) 0#32 1#32 k) :=
  inb_of 16648 _ _ (sUp_apply t k) (by omega) (fun x => by have := colAt_lt k x; have := t5_lt t; omega) _ rfl
theorem chk14 : k0_chk14 (k0_pay24 lanes (sBase t) 0#32 1#32 k) :=
  inb_of 16648 _ _ (sLeft_apply t k) (by omega) (fun x => by have := colAt_lt k x; have := t5_lt t; omega) _ rfl
theorem chk15 : k0_chk15 (k0_pay25 lanes (sBase t) 0#32 1#32 k) :=
  inb_of 16648 _ _ (sDiag_apply t k) (by omega) (fun x => by have := colAt_lt k x; have := t5_lt t; omega) _ rfl
theorem chk17 : k0_chk17 (k0_pay46 (sWord t k)) :=
  inb_of 49152 _ _ (sOut0_apply t k) (by omega) (fun x => by have := colAt_lt k x; have := t5_lt t; omega) _ rfl
theorem chk18 : k0_chk18 (k0_pay48 (k0_pay46 (sWord t k))) :=
  inb_of 49152 _ _ (sOut1_apply t k) (by omega) (fun x => by have := colAt_lt k x; have := t5_lt t; omega) _ rfl
theorem chk19 : k0_chk19 (k0_pay50 (k0_pay46 (sWord t k))) :=
  inb_of 49152 _ _ (sOut2_apply t k) (by omega) (fun x => by have := colAt_lt k x; have := t5_lt t; omega) _ rfl

end Soft

end Cert.Proof.KernelIdeal
-- ==== Proof.IdealCells.lean ====
/- What the tile's loops compute: the recurrence the table obeys, cell by cell, the three weights of
   a cell, and what one trip of each loop adds to a table that holds the recurrence so far. -/
module

public import proofs.«01_k».proof.Proof.IdealIndex

@[expose] public section

noncomputable section

namespace Cert.Proof.KernelIdeal

open Idealize.ShloMosaic
open Cert.KernelIdeal Cert.KernelIdeal.Gen Cert.Lanes

variable {F : FTy → Type} [FloatOps F] [Named F]

/-! ## The recurrence -/

/-- A lane to read a constant vector at. -/
def lane0 : S16.Idx := Shape.ofLane (d := ![16]) ⟨0, by decide⟩

/-- A cell of the table from the cells above, to the left and on the diagonal, and its weight. -/
def cellAt (up lf dg w : F .f32) : F .f32 :=
  k0_pay41 (fun _ => w) (k0_pay8 (fun _ => up) (fun _ => lf) (fun _ => dg))
    (k0_pay9 (fun _ => up) (fun _ => lf) (fun _ => dg)) k0_pay10 lane0

/-- The weight of channel `ch` at a cell, from its three neighbours, its weight and its mask. -/
def softAt (up lf dg w m : F .f32) (ch : ℕ) : F .f32 :=
  let e0 := k0_pay30 (fun _ => up) (fun _ => lf) (fun _ => dg) (fun _ => w)
  let e1 := k0_pay31 (fun _ => up) (fun _ => lf) (fun _ => dg) (fun _ => w)
  let e2 := k0_pay32 (fun _ => up) (fun _ => lf) (fun _ => dg) (fun _ => w)
  let e01 := k0_pay33 (fun _ => up) (fun _ => lf) (fun _ => dg) (fun _ => w)
  if ch = 0 then k0_pay47 (fun _ => m) e0 e2 e01 lane0
  else if ch = 1 then k0_pay49 (fun _ => m) e1 e2 e01 lane0
  else k0_pay51 (fun _ => m) e2 e01 lane0

theorem cell_lane (w u l d : Vec F S16 .f32) (x : S16.Idx) :
    k0_pay41 w (k0_pay8 u l d) (k0_pay9 u l d) k0_pay10 x = cellAt (u x) (l x) (d x) (w x) := rfl

theorem soft_lane0 (u l d w m : Vec F S16 .f32) (x : S16.Idx) :
    k0_pay47 m (k0_pay30 u l d w) (k0_pay32 u l d w) (k0_pay33 u l d w) x = softAt (u x) (l x) (d x) (w x) (m x) 0 := rfl
theorem soft_lane1 (u l d w m : Vec F S16 .f32) (x : S16.Idx) :
    k0_pay49 m (k0_pay31 u l d w) (k0_pay32 u l d w) (k0_pay33 u l d w) x = softAt (u x) (l x) (d x) (w x) (m x) 1 := rfl
theorem soft_lane2 (u l d w m : Vec F S16 .f32) (x : S16.Idx) :
    k0_pay51 m (k0_pay32 u l d w) (k0_pay33 u l d w) x = softAt (u x) (l x) (d x) (w x) (m x) 2 := rfl

/-- The border's word: far below every weight. -/
def edge : F .f32 := Scalar.ofBits .f32 0xE0AD78EC#32

/-- **The table**, for the weights `W` laid out row by row, `128` to a row. -/
def mu (W : ℕ → F .f32) : ℕ → ℕ → F .f32
  | 0, 0 => Scalar.ofBits .f32 0x00000000#32
  | 0, _ + 1 => edge
  | _ + 1, 0 => edge
  | i + 1, j + 1 => cellAt (mu W i (j + 1)) (mu W (i + 1) j) (mu W i j) (W (i * 128 + j))
termination_by i j => i + j

/-- The weight of channel `ch` at cell `q`, row by row. -/
def piV (W M : ℕ → F .f32) (q ch : ℕ) : F .f32 :=
  softAt (mu W (q / 128) (q % 128 + 1)) (mu W (q / 128 + 1) (q % 128)) (mu W (q / 128) (q % 128)) (W q) (M q) ch

/-- A row's word `p`. -/
def word (f : Vec F S16384 .f32) (p : ℕ) : F .f32 :=
  f (Shape.ofLane (d := ![16384]) ⟨p % 16384, Nat.mod_lt _ (by decide)⟩)

theorem mu_zero_succ (W : ℕ → F .f32) (j : ℕ) (h : j ≠ 0) : mu W 0 j = edge := by
  obtain ⟨j, rfl⟩ := Nat.exists_eq_succ_of_ne_zero h
  rw [mu]
theorem mu_succ_zero (W : ℕ → F .f32) (i : ℕ) (h : i ≠ 0) : mu W i 0 = edge := by
  obtain ⟨i, rfl⟩ := Nat.exists_eq_succ_of_ne_zero h
  rw [mu]
theorem mu_step (W : ℕ → F .f32) (i j : ℕ) :
    mu W (i + 1) (j + 1) = cellAt (mu W i (j + 1)) (mu W (i + 1) j) (mu W i j) (W (i * 128 + j)) := by
  rw [mu]

/-! ## Tables that hold the recurrence so far -/

/-- The table `f` holds the recurrence at every cell `P` speaks of. -/
def Holds (W : ℕ → F .f32) (P : ℕ → ℕ → Prop) (f : Vec F S16648 .f32) : Prop :=
  ∀ i j, i ≤ 128 → j ≤ 128 → P i j → ∀ x : S16648.Idx, (x 0).val = i * 129 + j → f x = mu W i j

theorem Holds.mono {W : ℕ → F .f32} {P Q : ℕ → ℕ → Prop} {f : Vec F S16648 .f32} (h : Holds W P f)
    (hPQ : ∀ i j, i ≤ 128 → j ≤ 128 → Q i j → P i j) : Holds W Q f :=
  fun i j hi hj hq x hx => h i j hi hj (hPQ i j hi hj hq) x hx

/-- A gather out of such a table reads the recurrence. -/
theorem Holds.load {W : ℕ → F .f32} {P : ℕ → ℕ → Prop} {f : Vec F S16648 .f32} (hf : Holds W P f)
    (ix : IVec S16 32) (h : ∀ a x, ((![ix] : Fin 1 → IVec S16 32) a x).toNat < S16648.size a) (x : S16.Idx) (i j p : ℕ)
    (hi : i ≤ 128) (hj : j ≤ 128) (hp : P i j) (hix : ix x = BitVec.ofNat 32 p) (e : p = i * 129 + j) :
    loadIdx f ![ix] h x = mu W i j := by
  refine hf i j hi hj hp _ ?_
  show (ix x).toNat = _
  rw [hix, toNat_ofNat_lt _ (by omega), e]

theorem word_load (f : Vec F S16384 .f32) (ix : IVec S16 32)
    (h : ∀ a x, ((![ix] : Fin 1 → IVec S16 32) a x).toNat < S16384.size a) (x : S16.Idx) (p : ℕ) (hp : p < 16384)
    (hix : ix x = BitVec.ofNat 32 p) : loadIdx f ![ix] h x = word f p := by
  unfold loadIdx word
  congr 1
  funext a
  apply Fin.ext
  rw [Fin.eq_zero a]
  show (ix x).toNat = p % 16384
  rw [hix, toNat_ofNat_lt _ (by omega), Nat.mod_eq_of_lt hp]

/-! ### The borders -/

/-- After `k` trips of the first loop. -/
def Border (k i j : ℕ) : Prop := (i = 0 ∧ j < 16 * k) ∨ (j = 0 ∧ 1 ≤ i ∧ i < 16 * k + 1)

theorem pay36_apply (W : ℕ → F .f32) (k : Fin k0_t1_loop.trips) (x : S16.Idx) :
    k0_pay36 (F := F) (k0_pay35 k) x = mu W 0 (16 * k.val + (x 0).val) := by
  have hk : k.val < 9 := trips1 ▸ k.isLt
  have hx := lane_lt x
  show Scalar.select (IntOp.cmpi .eq (k0_pay35 k x) (BitVec.ofNat 32 0)) (Scalar.ofBits .f32 0x00000000#32) edge = _
  unfold Scalar.select
  rw [pay35_apply]
  by_cases h : 16 * k.val + (x 0).val = 0
  · rw [if_pos ((cmpi_eq_ofNat _ _ (by omega) (by omega)).mpr h), h, mu]
  · rw [if_neg (fun hc => h ((cmpi_eq_ofNat _ _ (by omega) (by omega)).mp hc)), mu_zero_succ W _ h]

/-- A lane of the vectors, by its number. -/
abbrev laneOf (l : ℕ) (h : l < 16) : Fin ((![16] : Fin 1 → ℕ) 0) := ⟨l, h⟩

theorem border_step {W : ℕ → F .f32} (k : Fin k0_t1_loop.trips) {f : Vec F S16648 .f32} (hf : Holds W (Border k) f) :
    Holds W (Border (k + 1))
      (storeIdx (storeIdx f ![k0_pay35 k] (k0_pay36 (F := F) (k0_pay35 k)) (k0_pay37 (k0_pay35 k)) false (k0_idx1_inb _ (chk1 k)))
        ![k0_pay39 k] (k0_pay34 (F := F)) (k0_pay40 k) false (k0_idx2_inb _ (chk2 k))) := by
  have hk : k.val < 9 := trips1 ▸ k.isLt
  intro i j hi hj hp x hx
  refine storeIdx_eq _ (k0_pay39 k) _ _ _ x _ ?_ ?_
  · intro l hm hl
    have hm' := (pay40_iff k _).mp hm
    have h2 := lane_lt (Shape.ofLane l)
    rw [pay39_apply, toNat_ofNat_lt _ (by omega), hx] at hl
    have hj0 : j = 0 := by omega
    have hi0 : i ≠ 0 := by omega
    rw [hj0, mu_succ_zero W i hi0]; rfl
  · rcases hp with ⟨rfl, hjk⟩ | ⟨rfl, hi1, hik⟩
    · left
      refine storeIdx_eq _ (k0_pay35 k) _ _ _ x _ ?_ ?_
      · intro l hm hl
        have h2 := lane_lt (Shape.ofLane l)
        rw [pay35_apply, toNat_ofNat_lt _ (by omega), hx] at hl
        rw [pay36_apply W, hl]; simp
      · by_cases hjk' : j < 16 * k.val
        · left; exact hf 0 j hi hj (Or.inl ⟨rfl, hjk'⟩) x hx
        · right
          refine ⟨laneOf (j - 16 * k.val) (by omega), ?_, ?_⟩
          · refine (pay37_iff k _).mpr ?_
            show 16 * k.val + (j - 16 * k.val) ≤ 128
            omega
          · rw [pay35_apply]
            show (BitVec.ofNat 32 (16 * k.val + (j - 16 * k.val))).toNat = _
            rw [toNat_ofNat_lt _ (by omega), hx]; omega
    · by_cases hik' : i < 16 * k.val + 1
      · left
        rw [storeIdx_keep _ (k0_pay35 k)]
        · exact hf i 0 hi hj (Or.inr ⟨rfl, hi1, hik'⟩) x hx
        · intro l hm hl
          have hm' := (pay37_iff k _).mp hm
          rw [pay35_apply, toNat_ofNat_lt _ (by omega), hx] at hl
          omega
      · right
        refine ⟨laneOf (i - 16 * k.val - 1) (by omega), ?_, ?_⟩
        · refine (pay40_iff k _).mpr ?_
          show 16 * k.val + (i - 16 * k.val - 1) + 1 ≤ 128
          omega
        · rw [pay39_apply]
          show (BitVec.ofNat 32 (min (16 * k.val + (i - 16 * k.val - 1) + 1) 128 * 129)).toNat = _
          rw [toNat_ofNat_lt _ (by omega), hx]; omega

/-! ### The antidiagonals -/

/-- Before antidiagonal `d`. -/
def Before (d i j : ℕ) : Prop := i = 0 ∨ j = 0 ∨ i + j < d
/-- Inside antidiagonal `d`, after `c` chunks. -/
def Within (d c i j : ℕ) : Prop := i = 0 ∨ j = 0 ∨ i + j < d ∨ (i + j = d ∧ i < rowLo d + 16 * c)

section Chunk
variable (t : Fin k0_t2_loop.trips) (k : Fin (k0_t3_loop t).trips)

/-- What one chunk stores, from what it gathers. -/
theorem chunk_step {W : Vec F S16384 .f32} {f : Vec F S16648 .f32} (hf : Holds (word W) (Within (2 + t) k) f) :
    Holds (word W) (Within (2 + t) (k + 1))
      (storeIdx f ![iCell t k]
        (k0_pay41 (loadIdx W ![iWord t k] (k0_idx6_inb _ (chk6 t k)))
          (k0_pay8 (loadIdx f ![k0_pay4 (iCell t k)] (k0_idx3_inb _ (chk3 t k)))
            (loadIdx f ![k0_pay5 (iCell t k)] (k0_idx4_inb _ (chk4 t k)))
            (loadIdx f ![k0_pay6 (iCell t k)] (k0_idx5_inb _ (chk5 t k))))
          (k0_pay9 (loadIdx f ![k0_pay4 (iCell t k)] (k0_idx3_inb _ (chk3 t k)))
            (loadIdx f ![k0_pay5 (iCell t k)] (k0_idx4_inb _ (chk4 t k)))
            (loadIdx f ![k0_pay6 (iCell t k)] (k0_idx5_inb _ (chk5 t k))))
          (k0_pay10 (F := F)))
        (k0_pay42 t (iRow t k)) false (k0_idx7_inb _ (chk7 t k))) := by
  have ht := t2_lt t
  have hk := t3_lt t k
  intro i j hi hj hp x hx
  refine storeIdx_eq _ (iCell t k) _ _ _ x _ ?_ ?_
  · intro l hm hl
    have hm' := (live_iff t k _).mp hm
    have hb := rowCl_bounds t k (Shape.ofLane l)
    rw [iCell_apply, toNat_ofNat_lt _ (by omega), hx] at hl
    obtain ⟨r, hr⟩ : ∃ r, rowCl t k (Shape.ofLane l) = r + 1 := ⟨_, (Nat.sub_add_cancel hb.1).symm⟩
    obtain ⟨s, hs⟩ : ∃ s, 2 + t.val = r + 1 + (s + 1) := ⟨2 + t.val - (r + 1) - 1, by omega⟩
    have hi' : i = r + 1 := by omega
    have hj' : j = s + 1 := by omega
    subst hi' hj'
    rw [cell_lane, mu_step]
    rw [hf.load _ _ _ r (s + 1) _ (by omega) (by omega) (Or.inr (Or.inr (Or.inl (by omega)))) (iUp_apply t k _) (by omega),
      hf.load _ _ _ (r + 1) s _ (by omega) (by omega) (Or.inr (Or.inr (Or.inl (by omega)))) (iLeft_apply t k _) (by omega),
      hf.load _ _ _ r s _ (by omega) (by omega) (Or.inr (Or.inr (Or.inl (by omega)))) (iDiag_apply t k _) (by omega),
      word_load _ _ _ _ _ (by omega) (iWord_apply t k _)]
    congr 2; omega
  · by_cases hpr : Within (2 + t) k i j
    · exact Or.inl (hf i j hi hj hpr x hx)
    · right
      unfold Within at hp hpr
      have hlo : rowLo (2 + t) + 16 * k.val ≤ i := by omega
      have hl : i - (rowLo (2 + t) + 16 * k.val) < 16 := by omega
      have hhi : i ≤ rowHi (2 + t) := by unfold rowHi; omega
      have hrow : rowAt t k (Shape.ofLane (laneOf _ hl)) = i := by
        show rowLo (2 + t) + 16 * k.val + (i - (rowLo (2 + t) + 16 * k.val)) = i
        omega
      refine ⟨laneOf _ hl, (live_iff t k _).mpr (by rw [hrow]; exact hhi), ?_⟩
      rw [iCell_apply, rowCl, hrow, Nat.min_eq_left hhi, toNat_ofNat_lt _ (by omega), hx]
      omega

omit k in
theorem chunks_done {W : ℕ → F .f32} {f : Vec F S16648 .f32} (hf : Holds W (Within (2 + t) (k0_t3_loop t).trips) f) :
    Holds W (Before (2 + (t.val + 1))) f := by
  have ht := t2_lt t
  refine hf.mono fun i j hi hj hb => ?_
  rw [trips3]
  unfold Before at hb; unfold Within
  rcases hb with h | h | h
  · exact Or.inl h
  · exact Or.inr (Or.inl h)
  · by_cases hd : i + j < 2 + t.val
    · exact Or.inr (Or.inr (Or.inl hd))
    · unfold rowLo rowHi; omega

omit k in
theorem chunks_begin {W : ℕ → F .f32} {f : Vec F S16648 .f32} (hf : Holds W (Before (2 + t)) f) :
    Holds W (Within (2 + t) 0) f := by
  refine hf.mono fun i j hi hj hb => ?_
  unfold Before; unfold Within rowLo at hb
  omega

end Chunk

theorem border_done {W : ℕ → F .f32} {f : Vec F S16648 .f32} (hf : Holds W (Border k0_t1_loop.trips) f) :
    Holds W (Before (2 + 0)) f := by
  refine hf.mono fun i j hi hj hb => ?_
  rw [trips1]
  unfold Before at hb; unfold Border
  omega

/-- The whole table. -/
def Full (W : ℕ → F .f32) (f : Vec F S16648 .f32) : Prop := Holds W (fun _ _ => True) f

theorem diagonals_done {W : ℕ → F .f32} {f : Vec F S16648 .f32} (hf : Holds W (Before (2 + k0_t2_loop.trips)) f) :
    Full W f := by
  refine hf.mono fun i j hi hj _ => ?_
  rw [trips2]
  unfold Before
  omega

/-! ### The weights -/

/-- The first `N` cells' weights are in `g`. -/
def PiHolds (W M : ℕ → F .f32) (N : ℕ) (g : Vec F S49152 .f32) : Prop :=
  ∀ q ch, q < N → ch < 3 → ∀ x : S49152.Idx, (x 0).val = q * 3 + ch → g x = piV W M q ch

section Soft
variable (t : Fin k0_t5_loop.trips) (k : Fin k0_t6_loop.trips)

theorem soft_step {W M : Vec F S16384 .f32} {f : Vec F S16648 .f32} (hf : Full (word W) f) {g : Vec F S49152 .f32}
    (hg : PiHolds (word W) (word M) (128 * t + 16 * k) g)
    {u l d w m : Vec F S16 .f32}
    (hu : u = loadIdx f ![k0_pay23 lanes (sBase t) 0#32 1#32 k] (k0_idx13_inb _ (chk13 t k)))
    (hl : l = loadIdx f ![k0_pay24 lanes (sBase t) 0#32 1#32 k] (k0_idx14_inb _ (chk14 t k)))
    (hd : d = loadIdx f ![k0_pay25 lanes (sBase t) 0#32 1#32 k] (k0_idx15_inb _ (chk15 t k)))
    (hw : w = loadIdx W ![sWord t k] (k0_idx16_inb _ (chk16 t k)))
    (hm : m = loadIdx M ![sWord t k] (k0_idx17_inb _ (chk16 t k))) :
    PiHolds (word W) (word M) (128 * t + 16 * (k + 1))
      (storeIdx (storeIdx (storeIdx g
          ![k0_pay46 (sWord t k)] (k0_pay47 m (k0_pay30 u l d w) (k0_pay32 u l d w) (k0_pay33 u l d w))
          (fun _ => 1#1) false (k0_idx18_inb _ (chk17 t k)))
        ![k0_pay48 (k0_pay46 (sWord t k))] (k0_pay49 m (k0_pay31 u l d w) (k0_pay32 u l d w) (k0_pay33 u l d w))
          (fun _ => 1#1) false (k0_idx19_inb _ (chk18 t k)))
        ![k0_pay50 (k0_pay46 (sWord t k))] (k0_pay51 m (k0_pay32 u l d w) (k0_pay33 u l d w))
          (fun _ => 1#1) false (k0_idx20_inb _ (chk19 t k))) := by
  have ht := t5_lt t
  have hk := t6_lt k
  -- what the lanes hold
  have val : ∀ (x : S16.Idx) (ch : ℕ), softAt (u x) (l x) (d x) (w x) (m x) ch
      = piV (word W) (word M) (t * 128 + colAt k x) ch := by
    intro x ch
    have hc := colAt_lt k x
    have h1 : (t.val * 128 + colAt k x) / 128 = t.val := by omega
    have h2 : (t.val * 128 + colAt k x) % 128 = colAt k x := by omega
    unfold piV
    rw [h1, h2, hu, hl, hd, hw, hm]
    rw [hf.load _ _ x t (colAt k x + 1) _ (by omega) (by omega) trivial (sUp_apply t k x) rfl,
      hf.load _ _ x (t + 1) (colAt k x) _ (by omega) (by omega) trivial (sLeft_apply t k x) rfl,
      hf.load _ _ x t (colAt k x) _ (by omega) (by omega) trivial (sDiag_apply t k x) rfl,
      word_load _ _ _ x _ (by omega) (sWord_apply t k x), word_load _ _ _ x _ (by omega) (sWord_apply t k x)]
  intro q ch hq hch x hx
  -- the lane of a cell not yet done
  have find : ¬ q < 128 * t.val + 16 * k.val → ∃ n : Fin ((![16] : Fin 1 → ℕ) 0), t.val * 128 + colAt k (Shape.ofLane n) = q := by
    intro hn
    refine ⟨laneOf (q - (128 * t.val + 16 * k.val)) (by omega), ?_⟩
    show t.val * 128 + (16 * k.val + (q - (128 * t.val + 16 * k.val))) = q
    omega
  have at0 : storeIdx g ![k0_pay46 (sWord t k)] (k0_pay47 m (k0_pay30 u l d w) (k0_pay32 u l d w) (k0_pay33 u l d w))
      (fun _ => 1#1) false (k0_idx18_inb _ (chk17 t k)) x = piV (word W) (word M) q ch ∨ (ch ≠ 0 ∧ ¬ q < 128 * t.val + 16 * k.val) := by
    by_cases h : ch ≠ 0 ∧ ¬ q < 128 * t.val + 16 * k.val
    · exact Or.inr h
    · left
      refine storeIdx_eq _ (k0_pay46 (sWord t k)) _ _ _ x _ ?_ ?_
      · intro n _ hn
        have hc := colAt_lt k (Shape.ofLane n)
        rw [sOut0_apply, toNat_ofNat_lt _ (by omega), hx] at hn
        have h1 : ch = 0 := by omega
        have h2 : q = t.val * 128 + colAt k (Shape.ofLane n) := by omega
        subst h1 h2
        rw [soft_lane0, val]
      · by_cases hp : q < 128 * t.val + 16 * k.val
        · exact Or.inl (hg q ch hp hch x hx)
        · obtain ⟨n, hn⟩ := find hp
          have hc := colAt_lt k (Shape.ofLane n)
          refine Or.inr ⟨n, rfl, ?_⟩
          rw [sOut0_apply, toNat_ofNat_lt _ (by omega), hx]
          omega
  have at1 : storeIdx (storeIdx g ![k0_pay46 (sWord t k)] (k0_pay47 m (k0_pay30 u l d w) (k0_pay32 u l d w) (k0_pay33 u l d w))
      (fun _ => 1#1) false (k0_idx18_inb _ (chk17 t k)))
      ![k0_pay48 (k0_pay46 (sWord t k))] (k0_pay49 m (k0_pay31 u l d w) (k0_pay32 u l d w) (k0_pay33 u l d w))
          (fun _ => 1#1) false (k0_idx19_inb _ (chk18 t k)) x = piV (word W) (word M) q ch
      ∨ (ch = 2 ∧ ¬ q < 128 * t.val + 16 * k.val) := by
    by_cases h : ch = 2 ∧ ¬ q < 128 * t.val + 16 * k.val
    · exact Or.inr h
    · left
      refine storeIdx_eq _ (k0_pay48 (k0_pay46 (sWord t k))) _ _ _ x _ ?_ ?_
      · intro n _ hn
        have hc := colAt_lt k (Shape.ofLane n)
        rw [sOut1_apply, toNat_ofNat_lt _ (by omega), hx] at hn
        have h1 : ch = 1 := by omega
        have h2 : q = t.val * 128 + colAt k (Shape.ofLane n) := by omega
        subst h1 h2
        rw [soft_lane1, val]
      · rcases at0 with hp | ⟨h0, hp⟩
        · exact Or.inl hp
        · obtain ⟨n, hn⟩ := find hp
          have hc := colAt_lt k (Shape.ofLane n)
          refine Or.inr ⟨n, rfl, ?_⟩
          rw [sOut1_apply, toNat_ofNat_lt _ (by omega), hx]
          omega
  refine storeIdx_eq _ (k0_pay50 (k0_pay46 (sWord t k))) _ _ _ x _ ?_ ?_
  · intro n _ hn
    have hc := colAt_lt k (Shape.ofLane n)
    rw [sOut2_apply, toNat_ofNat_lt _ (by omega), hx] at hn
    have h1 : ch = 2 := by omega
    have h2 : q = t.val * 128 + colAt k (Shape.ofLane n) := by omega
    subst h1 h2
    rw [soft_lane2, val]
  · rcases at1 with hp | ⟨h0, hp⟩
    · exact Or.inl hp
    · obtain ⟨n, hn⟩ := find hp
      have hc := colAt_lt k (Shape.ofLane n)
      refine Or.inr ⟨n, rfl, ?_⟩
      rw [sOut2_apply, toNat_ofNat_lt _ (by omega), hx]
      omega

omit k in
theorem soft_row {W M : ℕ → F .f32} {g : Vec F S49152 .f32} (hg : PiHolds W M (128 * t + 16 * k0_t6_loop.trips) g) :
    PiHolds W M (128 * (t + 1)) g :=
  fun q ch hq => hg q ch (by rw [trips6]; omega)

end Soft

end Cert.Proof.KernelIdeal
-- ==== Proof.IdealSetup.lean ====
/- The program as the launch theorem sees it, the tables' rows, a tile's own buffers and semaphores,
   and what the one call hands the tiles and takes back from them. -/
module

public import proofs.«01_k».proof.Defs
public import proofs.«01_k».proof.Proof.Gen.KernelIdeal
public import proofs.«01_k».proof.Proof.Gen.KernelIdeal.Skeleton
public import proofs.«01_k».proof.Proof.IdealCells
public import proofs.«01_k».proof.Proof.Rows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen Cert.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

section Config
variable [FloatOps F] [Named F]
abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩
end Config

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tables -/

/-- The flat weights, the flat mask, and the two results, as locations of device `d`. -/
abbrev wLoc (d : Dev nD) : Loc nD τ sig := (SparseCore.T d).loc main_v0
abbrev kLoc (d : Dev nD) : Loc nD τ sig := (SparseCore.T d).loc main_v1
abbrev tLoc (d : Dev nD) : Loc nD τ sig := (SparseCore.T d).loc main_v2_0
abbrev pLoc (d : Dev nD) : Loc nD τ sig := (SparseCore.T d).loc main_v2_1

abbrev wV : Memref sig .scVector .hbm S32x16384 .f32 := Memref.whole main_v0_scv
abbrev kV : Memref sig .scVector .hbm S32x16384 .f32 := Memref.whole main_v1_scv
abbrev tV : Memref sig .scVector .hbm S32x16648 .f32 := Memref.whole main_v2_0_scv
abbrev pV : Memref sig .scVector .hbm S32x49152 .f32 := Memref.whole main_v2_1_scv
/-- A tile's own memory: weights, mask, table, channel weights. -/
abbrev sW : Memref sig .scVector .vmem S16384 .f32 := Memref.whole cc0_scratch0
abbrev sK : Memref sig .scVector .vmem S16384 .f32 := Memref.whole cc0_scratch1
abbrev sT : Memref sig .scVector .vmem S16648 .f32 := Memref.whole cc0_scratch2
abbrev sP : Memref sig .scVector .vmem S49152 .f32 := Memref.whole cc0_scratch3

/-- Row `b` of the 32, by its number. -/
def rowNo (b : ℕ) : Fin 32 := ⟨b % 32, Nat.mod_lt _ (by decide)⟩
theorem rowNo_val {b : ℕ} (h : b < 32) : (rowNo b).val = b := Nat.mod_eq_of_lt h

/-- Row `b` of a flat table, word by word. -/
def rowOf (f : Vec F S32x16384 .f32) (b : ℕ) (p : ℕ) : F .f32 :=
  f (Shape.pair (d := ![32, 16384]) (rowNo b) ⟨p % 16384, Nat.mod_lt _ (by decide)⟩)

/-- Row `b` of the table holds the recurrence of row `b` of the weights. -/
def MuRow [FloatOps F] [Named F] (fw : Vec F S32x16384 .f32) (b : ℕ) (f : Vec F S32x16648 .f32) : Prop :=
  ∀ i j, i ≤ 128 → j ≤ 128 → ∀ x : S32x16648.Idx, (x 0).val = b → (x 1).val = i * 129 + j → f x = mu (rowOf fw b) i j
/-- Row `b` of the channel weights. -/
def PiRow [FloatOps F] [Named F] (fw fm : Vec F S32x16384 .f32) (b : ℕ) (g : Vec F S32x49152 .f32) : Prop :=
  ∀ q ch, q < 16384 → ch < 3 → ∀ x : S32x49152.Idx, (x 0).val = b → (x 1).val = q * 3 + ch →
    g x = piV (rowOf fw b) (rowOf fm b) q ch

/-! ## What the handshakes carry -/

abbrev wRow (d : Dev nD) (b : ℕ) (f : Vec F S32x16384 .f32) : sProp 𝕄 := wLoc d ↦[rowSet 16384 (rowNo b)]{fullShare} f
abbrev kRow (d : Dev nD) (b : ℕ) (f : Vec F S32x16384 .f32) : sProp 𝕄 := kLoc d ↦[rowSet 16384 (rowNo b)]{fullShare} f
abbrev tRow (d : Dev nD) (b : ℕ) (f : Vec F S32x16648 .f32) : sProp 𝕄 := tLoc d ↦[rowSet 16648 (rowNo b)]{fullShare} f
abbrev pRow (d : Dev nD) (b : ℕ) (f : Vec F S32x49152 .f32) : sProp 𝕄 := pLoc d ↦[rowSet 49152 (rowNo b)]{fullShare} f

variable (fw fm : Dev nD → Vec F S32x16384 .f32) (ft : Dev nD → Vec F S32x16648 .f32) (fp : Dev nD → Vec F S32x49152 .f32)

/-- Row `b` of the four tables, as a tile takes them: the two results at their contents before the call. -/
abbrev goRow (d : Dev nD) (b : ℕ) : sProp 𝕄 :=
  iprop(wRow d b (fw d) ∗ kRow d b (fm d) ∗ tRow d b (ft d) ∗ pRow d b (fp d))

variable [FloatOps F] [Named F]

/-- As the tile leaves them. -/
abbrev tdRow (d : Dev nD) (b : ℕ) : sProp 𝕄 :=
  iprop(wRow d b (fw d) ∗ kRow d b (fm d) ∗ (∃ f, ⌜MuRow (fw d) b f⌝ ∗ tRow d b f) ∗ ∃ g, ⌜PiRow (fw d) (fm d) b g⌝ ∗ pRow d b g)

/-- Tile `i` of core `c` takes row `16 c + i`, the core the sixteen rows of its tiles. -/
def P : (K (F := F)).Pay (nD := nD) (Val := Elt F) (Name := ℕ) (U := UU) where
  st := fun q d c => match q with | 0 => bigSep Finset.univ fun i : Fin 16 => goRow fw fm ft fp d (16 * c.val + i.val)
  dn := fun q d c => match q with | 0 => bigSep Finset.univ fun i : Fin 16 => tdRow fw fm d (16 * c.val + i.val)
  go := fun q d c i => match q with | 0 => goRow fw fm ft fp d (16 * c.val + i.val)
  td := fun q d c i => match q with | 0 => tdRow fw fm d (16 * c.val + i.val)
  x := fun _ _ => iprop(emp)

instance P_storable : (P (F := F) fw fm ft fp).IsStorable where
  st q d c := match q with
    | 0 => (inferInstance : BI.Storable (upEmb : UEmb _ 𝕄) (bigSep Finset.univ fun i : Fin 16 => goRow fw fm ft fp d (16 * c.val + i.val)))
  dn q d c := match q with
    | 0 => (inferInstance : BI.Storable (upEmb : UEmb _ 𝕄) (bigSep Finset.univ fun i : Fin 16 => tdRow fw fm d (16 * c.val + i.val)))
  go q d c i := match q with
    | 0 => (inferInstance : BI.Storable (upEmb : UEmb _ 𝕄) (goRow fw fm ft fp d (16 * c.val + i.val)))
  td q d c i := match q with
    | 0 => (inferInstance : BI.Storable (upEmb : UEmb _ 𝕄) (tdRow fw fm d (16 * c.val + i.val)))

/-! ## A tile's rows, buffers and semaphores -/

section Tile
omit [FloatOps F] [Named F]
variable (d : Dev nD) (L : grid0.Coords)

abbrev cV (L : grid0.Coords) : Fin τ.nSC := (L 0).castLE hcore0
abbrev jV (L : grid0.Coords) : Fin τ.nSub := (L 1).castLE hsub0
/-- The tile's row. -/
abbrev bV (L : grid0.Coords) : ℕ := 16 * (L 0).val + (L 1).val
theorem bV_lt : bV L < 32 := by
  have h0 : (L 0).val < 2 := (L 0).isLt
  have h1 : (L 1).val < 16 := (L 1).isLt
  unfold bV; omega

abbrev wK (L : grid0.Coords) : Memref sig .scVector .hbm S16384 .f32 :=
  (wV.slice (Rect.unit (s := S32x16384) (k0_off1 L) S1x16384.size (k0_off1_inb L)) (fun _ => rfl)).squeeze S16384 squeezes_S1x16384_S16384
abbrev kK (L : grid0.Coords) : Memref sig .scVector .hbm S16384 .f32 :=
  (kV.slice (Rect.unit (s := S32x16384) (k0_off1 L) S1x16384.size (k0_off1_inb L)) (fun _ => rfl)).squeeze S16384 squeezes_S1x16384_S16384
abbrev tK (L : grid0.Coords) : Memref sig .scVector .hbm S16648 .f32 :=
  (tV.slice (Rect.unit (s := S32x16648) (k0_off2 L) S1x16648.size (k0_off2_inb L)) (fun _ => rfl)).squeeze S16648 squeezes_S1x16648_S16648
abbrev pK (L : grid0.Coords) : Memref sig .scVector .hbm S49152 .f32 :=
  (pV.slice (Rect.unit (s := S32x49152) (k0_off3 L) S1x49152.size (k0_off3_inb L)) (fun _ => rfl)).squeeze S49152 squeezes_S1x49152_S49152

theorem off_row {off : Fin 2 → ℕ} (h : off = ![16 * (L 0).val + (L 1).val, 0]) : off = ![(rowNo (bV L)).val, 0] := by
  rw [rowNo_val (bV_lt L), h]

theorem set_wK : (wK L).view.set = rowSet 16384 (rowNo (bV L)) := by
  show ((wV.view.slice (Rect.unit (s := S32x16384) (k0_off1 L) S1x16384.size (k0_off1_inb L))).reshape S16384 squeezes_S1x16384_S16384.numel_eq).set = _
  rw [View.set_reshape, View.set_slice]
  exact Finset.map_refl.trans (congrArg (fun r : Rect _ => r.set) (unit_eq_row 16384 _ (off_row L (k0_off1_eq L))))
theorem set_kK : (kK L).view.set = rowSet 16384 (rowNo (bV L)) := by
  show ((kV.view.slice (Rect.unit (s := S32x16384) (k0_off1 L) S1x16384.size (k0_off1_inb L))).reshape S16384 squeezes_S1x16384_S16384.numel_eq).set = _
  rw [View.set_reshape, View.set_slice]
  exact Finset.map_refl.trans (congrArg (fun r : Rect _ => r.set) (unit_eq_row 16384 _ (off_row L (k0_off1_eq L))))
theorem set_tK : (tK L).view.set = rowSet 16648 (rowNo (bV L)) := by
  show ((tV.view.slice (Rect.unit (s := S32x16648) (k0_off2 L) S1x16648.size (k0_off2_inb L))).reshape S16648 squeezes_S1x16648_S16648.numel_eq).set = _
  rw [View.set_reshape, View.set_slice]
  exact Finset.map_refl.trans (congrArg (fun r : Rect _ => r.set) (unit_eq_row 16648 _ (off_row L (k0_off2_eq L))))
theorem set_pK : (pK L).view.set = rowSet 49152 (rowNo (bV L)) := by
  show ((pV.view.slice (Rect.unit (s := S32x49152) (k0_off3 L) S1x49152.size (k0_off3_inb L))).reshape S49152 squeezes_S1x49152_S49152.numel_eq).set = _
  rw [View.set_reshape, View.set_slice]
  exact Finset.map_refl.trans (congrArg (fun r : Rect _ => r.set) (unit_eq_row 49152 _ (off_row L (k0_off3_eq L))))

theorem emb_wK (j : S16384.Idx) : ((wK L).view.emb j 0).val = bV L ∧ ((wK L).view.emb j 1).val = (j 0).val :=
  line_emb 16384 (inb := k0_off1_inb L) (bV L) (k0_off1_eq L) squeezes_S1x16384_S16384.numel_eq j
theorem emb_kK (j : S16384.Idx) : ((kK L).view.emb j 0).val = bV L ∧ ((kK L).view.emb j 1).val = (j 0).val :=
  line_emb 16384 (inb := k0_off1_inb L) (bV L) (k0_off1_eq L) squeezes_S1x16384_S16384.numel_eq j
theorem emb_tK (j : S16648.Idx) : ((tK L).view.emb j 0).val = bV L ∧ ((tK L).view.emb j 1).val = (j 0).val :=
  line_emb 16648 (inb := k0_off2_inb L) (bV L) (k0_off2_eq L) squeezes_S1x16648_S16648.numel_eq j
theorem emb_pK (j : S49152.Idx) : ((pK L).view.emb j 0).val = bV L ∧ ((pK L).view.emb j 1).val = (j 0).val :=
  line_emb 49152 (inb := k0_off3_inb L) (bV L) (k0_off3_eq L) squeezes_S1x49152_S49152.numel_eq j

abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)
abbrev cell3 : GSem nD τ sig := (V d (cV L) (jV L), .dma cc0_scoped3.sem)

/-- The tile's four semaphores are among its own. -/
theorem ownSems0_V :
    ∃ R : sProp 𝕄, (ownSems0 (V d (cV L) (jV L)) : sProp 𝕄)
      = iprop(semVal (cell0 d L) 0 ∗ semVal (cell1 d L) 0 ∗ semVal (cell2 d L) 0 ∗ semVal (cell3 d L) 0 ∗ R) := by
  apply Exists.intro
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc0_scoped3.sem : SemLoc sig).isScoped .scVector = true; decide⟩⟩⟩⟩)]

/-- Its four buffers are among its own, at some contents. -/
theorem ownBufs_V :
    ∃ R : sProp 𝕄, (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f) ∗ R) := by
  apply Exists.intro
  have own : ∀ r : Ref sig .scVector, ((Proc.scVector (cV L) (jV L)).devRef r).owner = .proc (Proc.scVector (cV L) (jV L)) →
      (Proc.scVector (cV L) (jV L)).devRef r ∈ ownRefs (τ := τ) (.scVector (cV L) (jV L)) :=
    fun r h => SparseCore.Cfg.mem_ownRefs_of_owner (p := Proc.scVector (cV L) (jV L)) h
  have ne : ∀ r s : Ref sig .scVector, r ≠ s → (Proc.scVector (cV L) (jV L)).devRef r ≠ (Proc.scVector (cV L) (jV L)).devRef s :=
    fun r s h e => absurd (Proc.devRef_injective _ e) h
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩),
    SparseCore.bigSep_erase' (Finset.mem_erase.mpr ⟨ne cc0_scratch3 cc0_scratch2 (by decide),
      Finset.mem_erase.mpr ⟨ne cc0_scratch3 cc0_scratch1 (by decide),
      Finset.mem_erase.mpr ⟨ne cc0_scratch3 cc0_scratch0 (by decide), own cc0_scratch3 rfl⟩⟩⟩)]

end Tile

end Cert.Proof.KernelIdeal
-- ==== Proof.IdealLoops.lean ====
/- The three loops of a tile, trip by trip: the border, the antidiagonals, the channel weights. -/
module

public import proofs.«01_k».proof.Proof.IdealSetup

@[expose] public section

noncomputable section

namespace Cert.Proof.KernelIdeal

open Cert.KernelIdeal Cert.KernelIdeal.Gen Cert.Rows

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The tile's memory, and its gathers and scatters -/

section Memory
variable (d : Dev nD) (L : grid0.Coords)

/-- The tile's thread, and its four buffers at contents. -/
abbrev thr : Thread nD τ := V d (cV L) (jV L)
abbrev atW (f : Vec F S16384 .f32) : sProp 𝕄 := (thr d L).loc cc0_scratch0 ↦{fullShare} f
abbrev atK (f : Vec F S16384 .f32) : sProp 𝕄 := (thr d L).loc cc0_scratch1 ↦{fullShare} f
abbrev atT (f : Vec F S16648 .f32) : sProp 𝕄 := (thr d L).loc cc0_scratch2 ↦{fullShare} f
abbrev atP (f : Vec F S49152 .f32) : sProp 𝕄 := (thr d L).loc cc0_scratch3 ↦{fullShare} f

variable [FloatOps F] [Named F]

theorem load_W {f : Vec F S16384 .f32} {ix : Fin 1 → IVec S16 32} {h : ∀ a x, (ix a x).toNat < S16384.size a}
    {hl : sW.view.Loads} {α : Type} {k : Vec F S16 .f32 → Prog (TpuEff nD τ sig (Elt F) Λ₀ (thr d L).2) α} {Q : α → sProp 𝕄} :
    atW d L f ⊢ iprop((atW d L f -∗ wp frame (wpE (defs₀ (F := F)) 𝒱₀ (thr d L) none) Set.univ (k (loadIdx f ix h)) Q)
      -∗ wp frame (wpE (defs₀ (F := F)) 𝒱₀ (thr d L) none) Set.univ (SparseCore.vectorLoadIdx sW ix h hl >>= k) Q) := by
  have e : (sW.access (.whole S16384)).read (Elt F) f = f := by
    funext x
    rw [View.read_apply]
    exact congrArg f (funext fun a => Fin.ext (by rw [Fin.eq_zero a]; exact (Nat.zero_add _).trans (Nat.one_mul _)))
  have := SparseCore.wp_vectorLoadIdx (defs := defs₀ (F := F)) 𝒱₀ (thr d L) none Set.univ (base := sW) (idxs := ix) (h := h) (hl := hl)
    (k := k) (Q := Q) (S := Finset.univ) (q := fullShare) (f := f) (Finset.subset_univ _)
  rw [e] at this
  exact this

theorem load_K {f : Vec F S16384 .f32} {ix : Fin 1 → IVec S16 32} {h : ∀ a x, (ix a x).toNat < S16384.size a}
    {hl : sK.view.Loads} {α : Type} {k : Vec F S16 .f32 → Prog (TpuEff nD τ sig (Elt F) Λ₀ (thr d L).2) α} {Q : α → sProp 𝕄} :
    atK d L f ⊢ iprop((atK d L f -∗ wp frame (wpE (defs₀ (F := F)) 𝒱₀ (thr d L) none) Set.univ (k (loadIdx f ix h)) Q)
      -∗ wp frame (wpE (defs₀ (F := F)) 𝒱₀ (thr d L) none) Set.univ (SparseCore.vectorLoadIdx sK ix h hl >>= k) Q) := by
  have e : (sK.access (.whole S16384)).read (Elt F) f = f := by
    funext x
    rw [View.read_apply]
    exact congrArg f (funext fun a => Fin.ext (by rw [Fin.eq_zero a]; exact (Nat.zero_add _).trans (Nat.one_mul _)))
  have := SparseCore.wp_vectorLoadIdx (defs := defs₀ (F := F)) 𝒱₀ (thr d L) none Set.univ (base := sK) (idxs := ix) (h := h) (hl := hl)
    (k := k) (Q := Q) (S := Finset.univ) (q := fullShare) (f := f) (Finset.subset_univ _)
  rw [e] at this
  exact this

theorem load_T {f : Vec F S16648 .f32} {ix : Fin 1 → IVec S16 32} {h : ∀ a x, (ix a x).toNat < S16648.size a}
    {hl : sT.view.Loads} {α : Type} {k : Vec F S16 .f32 → Prog (TpuEff nD τ sig (Elt F) Λ₀ (thr d L).2) α} {Q : α → sProp 𝕄} :
    atT d L f ⊢ iprop((atT d L f -∗ wp frame (wpE (defs₀ (F := F)) 𝒱₀ (thr d L) none) Set.univ (k (loadIdx f ix h)) Q)
      -∗ wp frame (wpE (defs₀ (F := F)) 𝒱₀ (thr d L) none) Set.univ (SparseCore.vectorLoadIdx sT ix h hl >>= k) Q) := by
  have e : (sT.access (.whole S16648)).read (Elt F) f = f := by
    funext x
    rw [View.read_apply]
    exact congrArg f (funext fun a => Fin.ext (by rw [Fin.eq_zero a]; exact (Nat.zero_add _).trans (Nat.one_mul _)))
  have := SparseCore.wp_vectorLoadIdx (defs := defs₀ (F := F)) 𝒱₀ (thr d L) none Set.univ (base := sT) (idxs := ix) (h := h) (hl := hl)
    (k := k) (Q := Q) (S := Finset.univ) (q := fullShare) (f := f) (Finset.subset_univ _)
  rw [e] at this
  exact this

theorem store_T {f : Vec F S16648 .f32} {ix : Fin 1 → IVec S16 32} {v : Vec F S16 .f32} {mask : IVec S16 1}
    {h : ∀ a x, (ix a x).toNat < S16648.size a} {hs : (sT.access (.whole S16648)).Stores Finset.univ} {α : Type}
    {k : PUnit → Prog (TpuEff nD τ sig (Elt F) Λ₀ (thr d L).2) α} {Q : α → sProp 𝕄} :
    atT d L f ⊢ iprop((atT d L (storeIdx f ix v mask false h) -∗ wp frame (wpE (defs₀ (F := F)) 𝒱₀ (thr d L) none) Set.univ (k ⟨⟩) Q)
      -∗ wp frame (wpE (defs₀ (F := F)) 𝒱₀ (thr d L) none) Set.univ (SparseCore.vectorStoreIdx sT ix v mask false h hs >>= k) Q) := by
  have emb : ∀ x, (sT.access (.whole S16648)).emb x = x := fun x =>
    funext fun a => Fin.ext (by rw [Fin.eq_zero a]; exact (Nat.zero_add _).trans (Nat.one_mul _))
  have e : (sT.access (.whole S16648)).read (Elt F) f = f := by
    funext x
    rw [View.read_apply]
    exact congrArg f (emb x)
  have e2 : ∀ w, (sT.access (.whole S16648)).write (Elt F) f w Finset.univ = w := by
    intro w
    funext x
    have := View.write_emb_of_mem (Val := Elt F) (v := sT.access (.whole S16648)) f w (M := Finset.univ) (Finset.mem_univ x)
    rw [emb] at this
    exact this
  have e3 : (sT.access (.whole S16648)).set = Finset.univ := by
    refine Finset.eq_univ_of_forall fun x => ?_
    have := View.emb_mem_set (sT.access (.whole S16648)) x
    rwa [emb] at this
  have := SparseCore.wp_vectorStoreIdx (defs := defs₀ (F := F)) 𝒱₀ (thr d L) none Set.univ (base := sT) (idxs := ix) (v := v) (mask := mask)
    (add := false) (h := h) (hs := hs) (k := k) (Q := Q) (f := f)
  rw [e, e2, e3] at this
  exact this

theorem store_P {f : Vec F S49152 .f32} {ix : Fin 1 → IVec S16 32} {v : Vec F S16 .f32} {mask : IVec S16 1}
    {h : ∀ a x, (ix a x).toNat < S49152.size a} {hs : (sP.access (.whole S49152)).Stores Finset.univ} {α : Type}
    {k : PUnit → Prog (TpuEff nD τ sig (Elt F) Λ₀ (thr d L).2) α} {Q : α → sProp 𝕄} :
    atP d L f ⊢ iprop((atP d L (storeIdx f ix v mask false h) -∗ wp frame (wpE (defs₀ (F := F)) 𝒱₀ (thr d L) none) Set.univ (k ⟨⟩) Q)
      -∗ wp frame (wpE (defs₀ (F := F)) 𝒱₀ (thr d L) none) Set.univ (SparseCore.vectorStoreIdx sP ix v mask false h hs >>= k) Q) := by
  have emb : ∀ x, (sP.access (.whole S49152)).emb x = x := fun x =>
    funext fun a => Fin.ext (by rw [Fin.eq_zero a]; exact (Nat.zero_add _).trans (Nat.one_mul _))
  have e : (sP.access (.whole S49152)).read (Elt F) f = f := by
    funext x
    rw [View.read_apply]
    exact congrArg f (emb x)
  have e2 : ∀ w, (sP.access (.whole S49152)).write (Elt F) f w Finset.univ = w := by
    intro w
    funext x
    have := View.write_emb_of_mem (Val := Elt F) (v := sP.access (.whole S49152)) f w (M := Finset.univ) (Finset.mem_univ x)
    rw [emb] at this
    exact this
  have e3 : (sP.access (.whole S49152)).set = Finset.univ := by
    refine Finset.eq_univ_of_forall fun x => ?_
    have := View.emb_mem_set (sP.access (.whole S49152)) x
    rwa [emb] at this
  have := SparseCore.wp_vectorStoreIdx (defs := defs₀ (F := F)) 𝒱₀ (thr d L) none Set.univ (base := sP) (idxs := ix) (v := v) (mask := mask)
    (add := false) (h := h) (hs := hs) (k := k) (Q := Q) (f := f)
  rw [e, e2, e3] at this
  exact this

/-! ## The border -/

abbrev t1Body := k0_t1_body (F := F) L wV (Memref.isWhole_whole _) kV (Memref.isWhole_whole _) tV (Memref.isWhole_whole _) pV (Memref.isWhole_whole _)
    sW (Memref.isWhole_whole _) sK (Memref.isWhole_whole _) sT (Memref.isWhole_whole _) sP (Memref.isWhole_whole _) cc0_scoped0 cc0_scoped1 cc0_scoped2 cc0_scoped3
abbrev t3Body (t : Fin k0_t2_loop.trips) := k0_t3_body (F := F) L wV (Memref.isWhole_whole _) kV (Memref.isWhole_whole _) tV (Memref.isWhole_whole _) pV (Memref.isWhole_whole _)
    sW (Memref.isWhole_whole _) sK (Memref.isWhole_whole _) sT (Memref.isWhole_whole _) sP (Memref.isWhole_whole _) cc0_scoped0 cc0_scoped1 cc0_scoped2 cc0_scoped3 lanes t
  (Scf.iv 2#32 1#32 t) (BitVec.ofNat 32 (rowLo (2 + t))) (BitVec.ofNat 32 (rowHi (2 + t)))
abbrev t2Body := k0_t2_body (F := F) L wV (Memref.isWhole_whole _) kV (Memref.isWhole_whole _) tV (Memref.isWhole_whole _) pV (Memref.isWhole_whole _)
    sW (Memref.isWhole_whole _) sK (Memref.isWhole_whole _) sT (Memref.isWhole_whole _) sP (Memref.isWhole_whole _) cc0_scoped0 cc0_scoped1 cc0_scoped2 cc0_scoped3 lanes
abbrev t6Body (t : Fin k0_t5_loop.trips) := k0_t6_body (F := F) L wV (Memref.isWhole_whole _) kV (Memref.isWhole_whole _) tV (Memref.isWhole_whole _) pV (Memref.isWhole_whole _)
    sW (Memref.isWhole_whole _) sK (Memref.isWhole_whole _) sT (Memref.isWhole_whole _) sP (Memref.isWhole_whole _) cc0_scoped0 cc0_scoped1 cc0_scoped2 cc0_scoped3 lanes (Scf.iv 1#32 1#32 t) (sBase t)
abbrev t5Body := k0_t5_body (F := F) L wV (Memref.isWhole_whole _) kV (Memref.isWhole_whole _) tV (Memref.isWhole_whole _) pV (Memref.isWhole_whole _)
    sW (Memref.isWhole_whole _) sK (Memref.isWhole_whole _) sT (Memref.isWhole_whole _) sP (Memref.isWhole_whole _) cc0_scoped0 cc0_scoped1 cc0_scoped2 cc0_scoped3 lanes

/-- The table holds the recurrence where `P` says. -/
abbrev tableAt (W : ℕ → F .f32) (P : ℕ → ℕ → Prop) : sProp 𝕄 := iprop(∃ f, ⌜Holds W P f⌝ ∗ atT d L f)

theorem border_trip (W : ℕ → F .f32) (k : Fin k0_t1_loop.trips) (u : Unit) :
    tableAt d L W (Border k)
      ⊢ wp frame (wpE (defs₀ (F := F)) 𝒱₀ (thr d L) none) Set.univ (t1Body L k u) fun _ => tableAt d L W (Border (k.val + 1)) := by
  unfold t1Body k0_t1_body
  simp only [Prog.lift, Prog.bind_op, Prog.bind_ret, Prog.pure_eq_ret]
  iintro ⟨%f, %hf, H⟩
  rw [wp_assume_of _ _ _ _ (chk1 k)]
  iapply (store_T d L) $$ H
  iintro H
  rw [wp_assume_of _ _ _ _ (chk2 k)]
  iapply (store_T d L) $$ H
  iintro H
  rw [wp_ret]; imodintro
  iexists _; isplitr
  · ipureintro; exact border_step k hf
  · iexact H

/-! ## The antidiagonals -/

theorem chunk_trip (W : Vec F S16384 .f32) (t : Fin k0_t2_loop.trips) (k : Fin (k0_t3_loop t).trips) (u : Unit) :
    iprop(atW d L W ∗ tableAt d L (word W) (Within (2 + t) k))
      ⊢ wp frame (wpE (defs₀ (F := F)) 𝒱₀ (thr d L) none) Set.univ (t3Body L t k u)
          fun _ => iprop(atW d L W ∗ tableAt d L (word W) (Within (2 + t) (k.val + 1))) := by
  unfold t3Body k0_t3_body
  rw [k0_part1_eq_skeleton]; unfold k0_part1_skel
  simp only [Prog.lift, Prog.bind_op, Prog.bind_ret, Prog.pure_eq_ret, bind_assoc]
  iintro ⟨HW, %f, %hf, H⟩
  rw [wp_assume_of _ _ _ _ (chk7 t k), wp_assume_of _ _ _ _ (chk3 t k)]
  iapply (load_T d L) $$ H
  iintro H
  rw [wp_assume_of _ _ _ _ (chk4 t k)]
  iapply (load_T d L) $$ H
  iintro H
  rw [wp_assume_of _ _ _ _ (chk5 t k)]
  iapply (load_T d L) $$ H
  iintro H
  rw [wp_assume_of _ _ _ _ (chk6 t k)]
  iapply (load_W d L) $$ HW
  iintro HW
  iapply (store_T d L) $$ H
  iintro H
  rw [wp_ret]; imodintro
  isplitl [HW]; · iexact HW
  iexists _; isplitr
  · ipureintro; exact chunk_step t k hf
  · iexact H

theorem diagonal_trip (W : Vec F S16384 .f32) (t : Fin k0_t2_loop.trips) (u : Unit) :
    iprop(atW d L W ∗ tableAt d L (word W) (Before (2 + t)))
      ⊢ wp frame (wpE (defs₀ (F := F)) 𝒱₀ (thr d L) none) Set.univ (t2Body L t u)
          fun _ => iprop(atW d L W ∗ tableAt d L (word W) (Before (2 + (t.val + 1)))) := by
  unfold t2Body k0_t2_body
  dsimp only
  rw [lo_eq, hi_eq]
  iintro ⟨HW, %f, %hf, H⟩
  iapply (Scf.wp_for_bind frame (wpE (defs₀ (F := F)) 𝒱₀ (thr d L) none) Set.univ _ _ _ _ _ _
    (fun k _ => iprop(atW d L W ∗ tableAt d L (word W) (Within (2 + t) k))) (chunk_trip d L W t)) $$ [HW H]
  · isplitl [HW]; · iexact HW
    iexists f; isplitr
    · ipureintro; exact chunks_begin t hf
    · iexact H
  iintro %_ ⟨HW, %g, %hg, H⟩
  iapply (Scf.wp_for_bind frame (wpE (defs₀ (F := F)) 𝒱₀ (thr d L) none) Set.univ _ _ _ _ _ _
    (fun _ _ => iprop(atW d L W ∗ atT d L g)) (fun k _ => absurd (lt_of_lt_of_eq k.isLt (trips4 t)) (Nat.not_lt_zero _))) $$ [HW H]
  · isplitl [HW] <;> iassumption
  iintro %_ ⟨HW, H⟩
  simp only [Prog.pure_eq_ret]
  rw [wp_ret]; imodintro
  isplitl [HW]; · iexact HW
  iexists g; isplitr
  · ipureintro; exact chunks_done t hg
  · iexact H

/-! ## The channel weights -/

theorem soft_trip (W M : Vec F S16384 .f32) (f : Vec F S16648 .f32) (hf : Full (word W) f) (t : Fin k0_t5_loop.trips) (k : Fin k0_t6_loop.trips) (u : Unit) :
    iprop(atW d L W ∗ atK d L M ∗ atT d L f ∗ ∃ g, ⌜PiHolds (word W) (word M) (128 * t + 16 * k) g⌝ ∗ atP d L g)
      ⊢ wp frame (wpE (defs₀ (F := F)) 𝒱₀ (thr d L) none) Set.univ (t6Body L t k u)
          fun _ => iprop(atW d L W ∗ atK d L M ∗ atT d L f ∗ ∃ g, ⌜PiHolds (word W) (word M) (128 * t + 16 * (k.val + 1)) g⌝ ∗ atP d L g) := by
  unfold t6Body k0_t6_body
  rw [k0_part3_eq_skeleton]; unfold k0_part3_skel
  simp only [Prog.lift, Prog.bind_op, Prog.bind_ret, Prog.pure_eq_ret, bind_assoc]
  iintro ⟨HW, HK, HT, %g, %hg, H⟩
  rw [wp_assume_of _ _ _ _ (chk16 t k), wp_assume_of _ _ _ _ (chk13 t k)]
  iapply (load_T d L) $$ HT
  iintro HT
  rw [wp_assume_of _ _ _ _ (chk14 t k)]
  iapply (load_T d L) $$ HT
  iintro HT
  rw [wp_assume_of _ _ _ _ (chk15 t k)]
  iapply (load_T d L) $$ HT
  iintro HT
  iapply (load_W d L) $$ HW
  iintro HW
  iapply (load_K d L) $$ HK
  iintro HK
  rw [wp_assume_of _ _ _ _ (chk17 t k)]
  iapply (store_P d L) $$ H
  iintro H
  rw [wp_assume_of _ _ _ _ (chk18 t k)]
  iapply (store_P d L) $$ H
  iintro H
  rw [wp_assume_of _ _ _ _ (chk19 t k)]
  iapply (store_P d L) $$ H
  iintro H
  rw [wp_ret]; imodintro
  isplitl [HW]; · iexact HW
  isplitl [HK]; · iexact HK
  isplitl [HT]; · iexact HT
  iexists _; isplitr
  · ipureintro; exact soft_step t k hf hg rfl rfl rfl rfl rfl
  · iexact H

theorem row_trip (W M : Vec F S16384 .f32) (f : Vec F S16648 .f32) (hf : Full (word W) f) (t : Fin k0_t5_loop.trips) (u : Unit) :
    iprop(atW d L W ∗ atK d L M ∗ atT d L f ∗ ∃ g, ⌜PiHolds (word W) (word M) (128 * t) g⌝ ∗ atP d L g)
      ⊢ wp frame (wpE (defs₀ (F := F)) 𝒱₀ (thr d L) none) Set.univ (t5Body L t u)
          fun _ => iprop(atW d L W ∗ atK d L M ∗ atT d L f ∗ ∃ g, ⌜PiHolds (word W) (word M) (128 * (t.val + 1)) g⌝ ∗ atP d L g) := by
  unfold t5Body k0_t5_body
  dsimp only
  iintro HI
  iapply (Scf.wp_for_bind frame (wpE (defs₀ (F := F)) 𝒱₀ (thr d L) none) Set.univ _ _ _ _ _ _
    (fun k _ => iprop(atW d L W ∗ atK d L M ∗ atT d L f ∗ ∃ g, ⌜PiHolds (word W) (word M) (128 * t + 16 * k) g⌝ ∗ atP d L g))
    (soft_trip d L W M f hf t)) $$ HI
  iintro %_ ⟨HW, HK, HT, %g, %hg, H⟩
  simp only [Prog.pure_eq_ret]
  rw [wp_ret]; imodintro
  isplitl [HW]; · iexact HW
  isplitl [HK]; · iexact HK
  isplitl [HT]; · iexact HT
  iexists g; isplitr
  · ipureintro; exact soft_row t hg
  · iexact H

end Memory

end Cert.Proof.KernelIdeal
-- ==== Proof.IdealTile.lean ====
/- A tile: its two rows copied in, the three loops, its two results copied out. -/
module

public import proofs.«01_k».proof.Proof.IdealLoops

@[expose] public section

noncomputable section

namespace Cert.Proof.KernelIdeal

open Cert.KernelIdeal Cert.KernelIdeal.Gen Cert.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

section Tile
variable (d : Dev nD) (L : grid0.Coords)

/-! ## What the copies move -/

/-- The tile's row of a flat table, as its own memory holds it. -/
def rowIn (f : Vec F S32x16384 .f32) : Vec F S16384 .f32 := fun j => f ((wK L).view.emb j)

theorem word_rowIn (f : Vec F S32x16384 .f32) : word (rowIn L f) = rowOf f (bV L) := by
  funext p
  unfold word rowIn rowOf
  congr 1
  refine table_ext 16384 ?_ ?_
  · rw [(emb_wK L _).1]; exact (rowNo_val (bV_lt L)).symm
  · rw [(emb_wK L _).2]; rfl

theorem in_W (f : Vec F S32x16384 .f32) (g : Vec F S16384 .f32) :
    (sW).view.write (Elt F) g ((wK L).view.read (Elt F) f) Finset.univ = rowIn L f := by
  refine (View.write_whole_univ _ _ _).trans (funext fun j => ?_)
  exact (View.read_apply _ _).trans (cast_eq _ _)
theorem in_K (f : Vec F S32x16384 .f32) (g : Vec F S16384 .f32) :
    (sK).view.write (Elt F) g ((kK L).view.read (Elt F) f) Finset.univ = rowIn L f := by
  refine (View.write_whole_univ _ _ _).trans (funext fun j => ?_)
  exact (View.read_apply _ _).trans (cast_eq _ _)

/-- The table's row after the copy out. -/
theorem out_T (f : Vec F S16648 .f32) (t : Vec F S32x16648 .f32) (x : S32x16648.Idx) (hx : (x 0).val = bV L) :
    (tK L).view.write (Elt F) t ((sT).view.read (Elt F) f) Finset.univ x = f (Shape.ofLane (d := ![16648]) (x 1)) := by
  have e : x = (tK L).view.emb (Shape.ofLane (d := ![16648]) (x 1)) :=
    table_ext 16648 (by rw [(emb_tK L _).1, hx]) (by rw [(emb_tK L _).2]; rfl)
  conv_lhs => rw [e]
  exact (View.write_emb_of_mem _ _ (Finset.mem_univ _)).trans (cast_eq _ _)
theorem out_P (f : Vec F S49152 .f32) (t : Vec F S32x49152 .f32) (x : S32x49152.Idx) (hx : (x 0).val = bV L) :
    (pK L).view.write (Elt F) t ((sP).view.read (Elt F) f) Finset.univ x = f (Shape.ofLane (d := ![49152]) (x 1)) := by
  have e : x = (pK L).view.emb (Shape.ofLane (d := ![49152]) (x 1)) :=
    table_ext 49152 (by rw [(emb_pK L _).1, hx]) (by rw [(emb_pK L _).2]; rfl)
  conv_lhs => rw [e]
  exact (View.write_emb_of_mem _ _ (Finset.mem_univ _)).trans (cast_eq _ _)

variable [FloatOps F] [Named F]

theorem out_mu {fw : Vec F S32x16384 .f32} {f : Vec F S16648 .f32} (hf : Full (word (rowIn L fw)) f) (t : Vec F S32x16648 .f32) :
    MuRow fw (bV L) ((tK L).view.write (Elt F) t ((sT).view.read (Elt F) f) Finset.univ) := by
  intro i j hi hj x h0 h1
  rw [out_T L f t x h0, ← word_rowIn]
  exact hf i j hi hj trivial _ h1
theorem out_pi {fw fm : Vec F S32x16384 .f32} {g : Vec F S49152 .f32}
    (hg : PiHolds (word (rowIn L fw)) (word (rowIn L fm)) 16384 g) (t : Vec F S32x49152 .f32) :
    PiRow fw fm (bV L) ((pK L).view.write (Elt F) t ((sP).view.read (Elt F) g) Finset.univ) := by
  intro q ch hq hch x h0 h1
  rw [out_P L g t x h0, ← word_rowIn, ← word_rowIn]
  exact hg q ch hq hch _ h1

/-! ## A copy and its wait -/

theorem copy {sp sp' : Space} {s : Shape} {src srcw : Memref sig .scVector sp s .f32} {dst : Memref sig .scVector sp' s .f32} {sem : DmaSem sig}
    {hsrc : src.view.WordExact} {hsrcw : srcw.view.WordExact} {hdst hdstw : dst.view.WordExact}
    {hsem : DmaTarget.Typed (nD := nD) (p := (thr d L).2) sp (.dma sem) (.here dst)}
    {α : Type} {k : PUnit → Prog (TpuEff nD τ sig (Elt F) Λ₀ (thr d L).2) α} {Q : α → sProp 𝕄}
    {fs : Buf (Elt F) (src.view.loc (thr d L))} {fd : Buf (Elt F) (dst.view.loc (thr d L))}
    {O : CellTallies nD τ sig (HIx 1)} {W : Waits sig (HIx 1)} (hO : ∀ g, O g none = 0) (hn : 0 < s.numel) :
    iprop(levAts (K (F := F)).L (K (F := F)).lev ∗ (src.view.loc (thr d L) ↦[src.view.set]{fullShare} fs)
        ∗ (dst.view.loc (thr d L) ↦[dst.view.set]{fullShare} fd) ∗ semVal (thr d L, .dma sem) 0 ∗ owes (thr d L) O W)
      ⊢ iprop((iprop((src.view.loc (thr d L) ↦[src.view.set]{fullShare} fs)
            ∗ (dst.view.loc (thr d L) ↦[dst.view.set]{fullShare} (dst.view.write (Elt F) fd (src.view.read (Elt F) fs) Finset.univ))
            ∗ semVal (thr d L, .dma sem) 0 ∗ owes (thr d L) O (insert (SemLoc.dma sem, none) W))
          -∗ wp frame (wpE (defs₀ (F := F)) 𝒱₀ (thr d L) none) Set.univ (k ⟨⟩) Q)
        -∗ wp frame (wpE (defs₀ (F := F)) 𝒱₀ (thr d L) none) Set.univ
          (.op (TpuEff.enqueueDma src (.here dst) (.dma sem) hsrc hdst hsem) fun _ => .op (TpuEff.waitDma2 sem srcw dst hsrcw hdstw) k) Q) := by
  iintro ⟨#Hlv, Hs, Hd, Hv, HO⟩ Hk
  iapply (Transfers.wp_dmaLocal countersEmb 𝒱₀ (thr d L) none none (dst.view.amount (.dma sem)) rfl (View.amount_pos _ _ hn) subset_rfl) $$ [Hs Hd Hv]
  · isplitl [Hs]; · iexact Hs
    isplitl [Hd] <;> iassumption
  iintro HF
  iapply (Transfers.wp_waitLocalO countersEmb 𝒱₀ (thr d L) none none rfl) $$ [HF HO]
  · isplitl [HF]; · iexact HF
    isplitl [HO]; · iexact HO
    iapply ((K (F := F)).mayWait_none (SemLoc.dma sem) hO); iexact Hlv
  iintro ⟨⟨Hd, Hs⟩, Hv, HO⟩
  iapply Hk
  isplitl [Hs]; · iexact Hs
  isplitl [Hd]; · iexact Hd
  isplitl [Hv] <;> iassumption

/-! ## The tile -/

theorem set_sW : (sW).view.set = Finset.univ := View.set_whole _
theorem set_sK : (sK).view.set = Finset.univ := View.set_whole _
theorem set_sT : (sT).view.set = Finset.univ := View.set_whole _
theorem set_sP : (sP).view.set = Finset.univ := View.set_whole _

theorem waits_step {W W' : Waits sig (HIx 1)} {s : SemLoc sig} (h : ∀ p ∈ W', p ∈ W ∨ p.2 = none) :
    ∀ p ∈ insert (s, (none : HIx 1)) W', p ∈ W ∨ p.2 = none := by
  intro p hp
  rcases Finset.mem_insert.mp hp with hp | hp
  · exact .inr (hp ▸ rfl)
  · exact h p hp

variable (fw fm : Dev nD → Vec F S32x16384 .f32) (ft : Dev nD → Vec F S32x16648 .f32) (fp : Dev nD → Vec F S32x49152 .f32)

theorem tile_body (hF : (K (F := F)).Facts) (O : CellTallies nD τ sig (HIx 1)) (W : Waits sig (HIx 1)) (hO : ∀ g, O g none = 0) :
    iprop(levAts (K (F := F)).L (K (F := F)).lev ∗ emp ∗ goRow fw fm ft fp d (bV L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__dtw_body L wV (Memref.isWhole_whole _) kV (Memref.isWhole_whole _) tV (Memref.isWhole_whole _) pV (Memref.isWhole_whole _)
            sW (Memref.isWhole_whole _) sK (Memref.isWhole_whole _) sT (Memref.isWhole_whole _) sP (Memref.isWhole_whole _)
            cc0_scoped0 cc0_scoped1 cc0_scoped2 cc0_scoped3)
          fun _ => iprop(tdRow fw fm d (bV L) ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hS⟩ := ownSems0_V (F := F) d L
  obtain ⟨RB, hB⟩ := ownBufs_V (F := F) d L
  rw [cc0__dtw_body_eq_skeleton]; unfold cc0__dtw_body_skel
  rw [k0_part4_eq_skeleton]; unfold k0_part4_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), hS, hB]
  iintro ⟨#Hlv, -, ⟨Hw, Hk, Ht, Hp⟩, ⟨⟨%g0, H0⟩, ⟨%g1, H1⟩, ⟨%g2, H2⟩, ⟨%g3, H3⟩, HB⟩, ⟨S0, S1, S2, S3, HS⟩, HO⟩
  -- the weights in
  iapply (copy d L (src := wK L) (dst := sW) (fs := fw d) (fd := g0) hO (by decide)) $$ [Hw H0 S0 HO]
  · rw [set_wK, set_sW]
    isplitr; · iexact Hlv
    isplitl [Hw]; · iexact Hw
    isplitl [H0]; · iexact H0
    isplitl [S0] <;> iassumption
  rw [set_wK, set_sW, in_W]
  iintro ⟨Hw, H0, S0, HO⟩
  -- the mask in
  iapply (copy d L (src := kK L) (dst := sK) (fs := fm d) (fd := g1) hO (by decide)) $$ [Hk H1 S1 HO]
  · rw [set_kK, set_sK]
    isplitr; · iexact Hlv
    isplitl [Hk]; · iexact Hk
    isplitl [H1]; · iexact H1
    isplitl [S1] <;> iassumption
  rw [set_kK, set_sK, in_K]
  iintro ⟨Hk, H1, S1, HO⟩
  -- the border
  iapply (Scf.wp_for_bind frame (wpE (defs₀ (F := F)) 𝒱₀ (thr d L) none) Set.univ _ _ _ _ _ _
    (fun k _ => tableAt d L (word (rowIn L (fw d))) (Border k)) (border_trip d L (word (rowIn L (fw d))))) $$ [H2]
  · iexists g2; isplitr
    · ipureintro
      intro i j hi hj hb
      unfold Border at hb
      omega
    · iexact H2
  iintro %_ ⟨%f1, %hf1, H2⟩
  -- the antidiagonals
  iapply (Scf.wp_for_bind frame (wpE (defs₀ (F := F)) 𝒱₀ (thr d L) none) Set.univ _ _ _ _ _ _
    (fun k _ => iprop(atW d L (rowIn L (fw d)) ∗ tableAt d L (word (rowIn L (fw d))) (Before (2 + k))))
    (diagonal_trip d L (rowIn L (fw d)))) $$ [H0 H2]
  · isplitl [H0]; · iexact H0
    iexists f1; isplitr
    · ipureintro; exact border_done hf1
    · iexact H2
  iintro %_ ⟨H0, %f2, %hf2, H2⟩
  have hfull : Full (word (rowIn L (fw d))) f2 := diagonals_done hf2
  -- the channel weights
  iapply (Scf.wp_for_bind frame (wpE (defs₀ (F := F)) 𝒱₀ (thr d L) none) Set.univ _ _ _ _ _ _
    (fun k _ => iprop(atW d L (rowIn L (fw d)) ∗ atK d L (rowIn L (fm d)) ∗ atT d L f2
      ∗ ∃ g, ⌜PiHolds (word (rowIn L (fw d))) (word (rowIn L (fm d))) (128 * k) g⌝ ∗ atP d L g))
    (row_trip d L (rowIn L (fw d)) (rowIn L (fm d)) f2 hfull)) $$ [H0 H1 H2 H3]
  · isplitl [H0]; · iexact H0
    isplitl [H1]; · iexact H1
    isplitl [H2]; · iexact H2
    iexists g3; isplitr
    · ipureintro
      intro q ch hq
      omega
    · iexact H3
  iintro %_ ⟨H0, H1, H2, %g, %hg, H3⟩
  -- the table out
  iapply (copy d L (src := sT) (dst := tK L) (fs := f2) (fd := ft d) hO (by decide)) $$ [Ht H2 S2 HO]
  · rw [set_tK, set_sT]
    isplitr; · iexact Hlv
    isplitl [H2]; · iexact H2
    isplitl [Ht]; · iexact Ht
    isplitl [S2] <;> iassumption
  rw [set_tK, set_sT]
  iintro ⟨H2, Ht, S2, HO⟩
  -- the channel weights out
  iapply (copy d L (src := sP) (dst := pK L) (fs := g) (fd := fp d) hO (by decide)) $$ [Hp H3 S3 HO]
  · rw [set_pK, set_sP]
    isplitr; · iexact Hlv
    isplitl [H3]; · iexact H3
    isplitl [Hp]; · iexact Hp
    isplitl [S3] <;> iassumption
  rw [set_pK, set_sP]
  iintro ⟨H3, Hp, S3, HO⟩
  rw [wp_ret]; imodintro
  isplitl [Hw Hk Ht Hp]
  · isplitl [Hw]; · iexact Hw
    isplitl [Hk]; · iexact Hk
    isplitl [Ht]
    · iexists _; isplitr
      · ipureintro; exact out_mu L hfull (ft d)
      · iexact Ht
    · iexists _; isplitr
      · ipureintro; exact out_pi L (by rw [show Scf.trips k0_t5_loop.lb k0_t5_loop.ub k0_t5_loop.st = 128 from trips5] at hg; exact hg) (fp d)
      · iexact Hp
  isplitl [H0 H1 H2 H3 HB]
  · isplitl [H0]; · iexists _; iexact H0
    isplitl [H1]; · iexists _; iexact H1
    isplitl [H2]; · iexists _; iexact H2
    isplitl [H3]; · iexists _; iexact H3
    iexact HB
  isplitl [S0 S1 S2 S3 HS]
  · isplitl [S0]; · iexact S0
    isplitl [S1]; · iexact S1
    isplitl [S2]; · iexact S2
    isplitl [S3]; · iexact S3
    iexact HS
  iexists _; isplitr
  rotate_left
  · iexact HO
  · ipureintro
    exact waits_step (waits_step (waits_step (waits_step fun p hp => .inl hp)))

end Tile

end Cert.Proof.KernelIdeal
-- ==== Proof.IdealLaunch.lean ====
/- The whole program: the two reshapes, the one call, the slice and the two reshapes after it; what every
   fair execution leaves. -/
module

public import proofs.«01_k».proof.Proof.IdealTile

@[expose] public section

noncomputable section

namespace Cert.Proof.KernelIdeal

open Cert.KernelIdeal Cert.KernelIdeal.Gen Cert.Rows

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

/-! ## The call's obligations -/

section Obligations
variable [FloatOps F] [Named F]
variable (fw fm : Dev nD → Vec F S32x16384 .f32) (ft : Dev nD → Vec F S32x16648 .f32) (fp : Dev nD → Vec F S32x49152 .f32)

/-- The grid coordinates of core `c`, tile `s`. -/
abbrev coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__dtw_body (coordsV c s)
          wV (Memref.isWhole_whole _) kV (Memref.isWhole_whole _) tV (Memref.isWhole_whole _) pV (Memref.isWhole_whole _)
          sW (Memref.isWhole_whole _) sK (Memref.isWhole_whole _) sT (Memref.isWhole_whole _) sP (Memref.isWhole_whole _)
          cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P fw fm ft fp) v₀ 0 := by
  intro d c i O W hO _ _
  simp only [show (P (F := F) fw fm ft fp).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) fw fm ft fp hF O W hO).trans (wp_mono frame _ _ fun _ => obl_post)

/-- A core's rows are its tiles'. -/
theorem vecSplit : (K (F := F)).VecSplit' (P fw fm ft fp) 0 := by
  intro d c
  show (bigSep Finset.univ fun i : Fin 16 => goRow fw fm ft fp d (16 * c.val + i.val)) ⊢ |={Set.univ}=> iprop(
      (bigSep Finset.univ fun i : Fin 16 => goRow fw fm ft fp d (16 * c.val + i.val))
      ∗ ((bigSep Finset.univ fun i : Fin 16 => tdRow fw fm d (16 * c.val + i.val))
          -∗ bigSep Finset.univ fun i : Fin 16 => tdRow fw fm d (16 * c.val + i.val)))
  iintro H; imodintro
  isplitl [H]; · iexact H
  iintro H; iexact H

end Obligations

/-! ## Whole tables and their rows -/

/-- The thirty-two rows, core by core. -/
theorem rows_by_core (Φ : ℕ → sProp 𝕄) :
    (bigSep Finset.univ fun c : Fin 2 => bigSep Finset.univ fun i : Fin 16 => Φ (16 * c.val + i.val))
      = bigSep Finset.univ fun b : Fin 32 => Φ b.val := by
  rw [bigSep_univ_equiv (finProdFinEquiv : Fin 2 × Fin 16 ≃ Fin 32), bigSep_univ_prod]
  exact bigSep_congr fun c _ => bigSep_congr fun i _ => congrArg Φ (by
    show 16 * c.val + i.val = i.val + 16 * c.val; omega)

theorem rowNo_fin (b : Fin 32) : rowNo b.val = b := Fin.ext (Nat.mod_eq_of_lt b.isLt)

theorem w_rows (d : Dev nD) (f : Vec F S32x16384 .f32) :
    (bigSep Finset.univ fun b : Fin 32 => wRow d b.val f : sProp 𝕄) = wLoc d ↦{fullShare} f := by
  simp only [wRow, rowNo_fin]
  rw [← pointsTo_biUnion Finset.univ (ℓ := wLoc d) (rowSet 16384) fun i _ j _ => rows_disjoint 16384 i j, rows_cover]
theorem k_rows (d : Dev nD) (f : Vec F S32x16384 .f32) :
    (bigSep Finset.univ fun b : Fin 32 => kRow d b.val f : sProp 𝕄) = kLoc d ↦{fullShare} f := by
  simp only [kRow, rowNo_fin]
  rw [← pointsTo_biUnion Finset.univ (ℓ := kLoc d) (rowSet 16384) fun i _ j _ => rows_disjoint 16384 i j, rows_cover]
theorem t_rows (d : Dev nD) (f : Vec F S32x16648 .f32) :
    (bigSep Finset.univ fun b : Fin 32 => tRow d b.val f : sProp 𝕄) = tLoc d ↦{fullShare} f := by
  simp only [tRow, rowNo_fin]
  rw [← pointsTo_biUnion Finset.univ (ℓ := tLoc d) (rowSet 16648) fun i _ j _ => rows_disjoint 16648 i j, rows_cover]
theorem p_rows (d : Dev nD) (f : Vec F S32x49152 .f32) :
    (bigSep Finset.univ fun b : Fin 32 => pRow d b.val f : sProp 𝕄) = pLoc d ↦{fullShare} f := by
  simp only [pRow, rowNo_fin]
  rw [← pointsTo_biUnion Finset.univ (ℓ := pLoc d) (rowSet 49152) fun i _ j _ => rows_disjoint 49152 i j, rows_cover]

section Join
variable [FloatOps F] [Named F]

/-- Rows each right join to a table right in every row. -/
theorem t_join (d : Dev nD) (fw : Vec F S32x16384 .f32) (ft : Vec F S32x16648 .f32) :
    (bigSep Finset.univ fun b : Fin 32 => iprop(∃ f, ⌜MuRow fw b.val f⌝ ∗ tRow d b.val f))
      ⊢ (iprop(∃ f, ⌜∀ b : Fin 32, MuRow fw b.val f⌝ ∗ tLoc d ↦{fullShare} f) : sProp 𝕄) := by
  haveI : Nonempty (Vec F S32x16648 .f32) := ⟨ft⟩
  refine (bigSep_exists_pi Finset.univ (fun (b : Fin 32) (f : Vec F S32x16648 .f32) => iprop(⌜MuRow fw b.val f⌝ ∗ tRow d b.val f))).trans ?_
  iintro ⟨%fs, H⟩
  ihave H' := (bigSep_pure_sep Finset.univ (fun b : Fin 32 => MuRow fw b.val (fs b)) (fun b => tRow d b.val (fs b))) $$ H
  icases H' with ⟨%hrow, H⟩
  simp only [tRow, rowNo_fin]
  ihave H' := (pointsTo_biUnion_join (ℓ := tLoc d) Finset.univ (rowSet 16648) fs (fs 0) fun i _ j _ => rows_disjoint 16648 i j) $$ H
  icases H' with ⟨%g, %hg, Hg⟩
  rw [rows_cover]
  iexists g; isplitr
  · ipureintro
    intro b i j hi hj x h0 h1
    rw [hg b (Finset.mem_univ b) x ((mem_rowSet 16648 b x).mpr h0)]
    exact hrow b (Finset.mem_univ b) i j hi hj x h0 h1
  · iexact Hg

theorem p_join (d : Dev nD) (fw fm : Vec F S32x16384 .f32) (fp : Vec F S32x49152 .f32) :
    (bigSep Finset.univ fun b : Fin 32 => iprop(∃ f, ⌜PiRow fw fm b.val f⌝ ∗ pRow d b.val f))
      ⊢ (iprop(∃ f, ⌜∀ b : Fin 32, PiRow fw fm b.val f⌝ ∗ pLoc d ↦{fullShare} f) : sProp 𝕄) := by
  haveI : Nonempty (Vec F S32x49152 .f32) := ⟨fp⟩
  refine (bigSep_exists_pi Finset.univ (fun (b : Fin 32) (f : Vec F S32x49152 .f32) => iprop(⌜PiRow fw fm b.val f⌝ ∗ pRow d b.val f))).trans ?_
  iintro ⟨%fs, H⟩
  ihave H' := (bigSep_pure_sep Finset.univ (fun b : Fin 32 => PiRow fw fm b.val (fs b)) (fun b => pRow d b.val (fs b))) $$ H
  icases H' with ⟨%hrow, H⟩
  simp only [pRow, rowNo_fin]
  ihave H' := (pointsTo_biUnion_join (ℓ := pLoc d) Finset.univ (rowSet 49152) fs (fs 0) fun i _ j _ => rows_disjoint 49152 i j) $$ H
  icases H' with ⟨%g, %hg, Hg⟩
  rw [rows_cover]
  iexists g; isplitr
  · ipureintro
    intro b q ch hq hch x h0 h1
    rw [hg b (Finset.mem_univ b) x ((mem_rowSet 49152 b x).mpr h0)]
    exact hrow b (Finset.mem_univ b) q ch hq hch x h0 h1
  · iexact Hg

variable (fw fm : Dev nD → Vec F S32x16384 .f32) (ft : Dev nD → Vec F S32x16648 .f32) (fp : Dev nD → Vec F S32x49152 .f32)

theorem st_eq (d : Dev nD) :
    (bigSep Finset.univ fun c : Fin ((K (F := F)).nCore 0) => (P fw fm ft fp).st 0 d c)
      = iprop((wLoc d ↦{fullShare} fw d) ∗ (kLoc d ↦{fullShare} fm d) ∗ (tLoc d ↦{fullShare} ft d) ∗ pLoc d ↦{fullShare} fp d) := by
  show (bigSep Finset.univ fun c : Fin 2 => bigSep Finset.univ fun i : Fin 16 => goRow fw fm ft fp d (16 * c.val + i.val)) = _
  rw [rows_by_core (fun b => goRow fw fm ft fp d b)]
  unfold goRow
  rw [bigSep_sep', bigSep_sep', bigSep_sep', w_rows, k_rows, t_rows, p_rows]

theorem dn_elim (d : Dev nD) :
    (bigSep Finset.univ fun c : Fin ((K (F := F)).nCore 0) => (P fw fm ft fp).dn 0 d c)
      ⊢ iprop((wLoc d ↦{fullShare} fw d) ∗ (kLoc d ↦{fullShare} fm d)
          ∗ (∃ f, ⌜∀ b : Fin 32, MuRow (fw d) b.val f⌝ ∗ tLoc d ↦{fullShare} f)
          ∗ ∃ g, ⌜∀ b : Fin 32, PiRow (fw d) (fm d) b.val g⌝ ∗ pLoc d ↦{fullShare} g) := by
  show (bigSep Finset.univ fun c : Fin 2 => bigSep Finset.univ fun i : Fin 16 => tdRow fw fm d (16 * c.val + i.val)) ⊢ _
  rw [rows_by_core (fun b => tdRow fw fm d b)]
  unfold tdRow
  rw [bigSep_sep', bigSep_sep', bigSep_sep', w_rows, k_rows]
  iintro ⟨Hw, Hk, Ht, Hp⟩
  isplitl [Hw]; · iexact Hw
  isplitl [Hk]; · iexact Hk
  isplitl [Ht]
  · iapply (t_join d (fw d) (ft d)); iexact Ht
  · iapply (p_join d (fw d) (fm d) (fp d)); iexact Hp

end Join

/-! ## The launch element: the handshakes' rounds -/

section Main
variable [FloatOps F] [Named F] (m : (ℓ : Loc nD τ sig) → Buf (Elt F) ℓ) (ρ : Dev nD → PrngReg)

def u₀ : UU := (initOf (K (F := F)).hsCells (K (F := F)).hsToks, 1)

/-- The flat weights and mask, and the result tables before the call. -/
def flatW (d : Dev nD) : Vec F S32x16384 .f32 := shapeCast S32x16384 (m ((SparseCore.T d).loc main_arg0)) shapeCasts_S32x128x128_S32x16384
def flatM (d : Dev nD) : Vec F S32x16384 .f32 := shapeCast S32x16384 (m ((SparseCore.T d).loc main_arg1)) shapeCasts_S32x128x128x1_S32x16384

abbrev PM : (K (F := F)).Pay (nD := nD) (Val := Elt F) (Name := ℕ) (U := UU) :=
  P (flatW m) (flatM m) (fun d => m (tLoc d)) (fun d => m (pLoc d))

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  unfold u₀
  iintro Hu
  ihave H := (ownU_pair _ _) $$ Hu
  icases H with ⟨HH, -⟩
  imodintro
  isplitl [HH]; · iexact HH
  isplitr; · rw [emp_all]; iempintro
  unfold PM P; dsimp only
  rw [show (bigSep Finset.univ fun _ : Thread nD τ => bigSep Finset.univ fun _ : Fin 1 => (iprop(emp) : sProp 𝕄)) = iprop(emp) from by
    rw [bigSep_congr fun _ _ => emp_all _, emp_all]]
  iempintro

/-! ## @main on the TensorCore -/

abbrev dr (r : Ref sig .tc) : DevRef τ sig := Proc.devRef .tc r
/-- The nine arrays. -/
abbrev S9 : Finset (DevRef τ sig) :=
  {dr main_arg0, dr main_arg1, dr main_v0, dr main_v1, dr main_v2_0, dr main_v2_1, dr main_v3, dr main_v4, dr main_v5}

abbrev opW : HloOp τ sig (Elt F) := StableHlo.reshape main_arg0 main_v0 rfl shapeCasts_S32x128x128_S32x16384
abbrev opK : HloOp τ sig (Elt F) := StableHlo.reshape main_arg1 main_v1 rfl shapeCasts_S32x128x128x1_S32x16384
abbrev opS : HloOp τ sig (Elt F) := StableHlo.unary main_v2_0 main_v3
  ((extractStridedSlice S32x16641 ![0, 0] · slices_S32x16648_S32x16641_0_0) : (⟨S32x16648, .f32⟩ : BufTy).Contents (Elt F) → (⟨S32x16641, .f32⟩ : BufTy).Contents (Elt F))
abbrev opT : HloOp τ sig (Elt F) := StableHlo.reshape main_v3 main_v4 rfl shapeCasts_S32x16641_S32x129x129
abbrev opP : HloOp τ sig (Elt F) := StableHlo.reshape main_v2_1 main_v5 rfl shapeCasts_S32x49152_S32x128x128x3

theorem subW : (opW (F := F)).bufs ⊆ S9 := show ({dr main_arg0, dr main_v0} : Finset (DevRef τ sig)) ⊆ S9 by decide
theorem subK : (opK (F := F)).bufs ⊆ S9 := show ({dr main_arg1, dr main_v1} : Finset (DevRef τ sig)) ⊆ S9 by decide
theorem subS : (opS (F := F)).bufs ⊆ S9 := show ({dr main_v2_0, dr main_v3} : Finset (DevRef τ sig)) ⊆ S9 by decide
theorem subT : (opT (F := F)).bufs ⊆ S9 := show ({dr main_v3, dr main_v4} : Finset (DevRef τ sig)) ⊆ S9 by decide
theorem subP : (opP (F := F)).bufs ⊆ S9 := show ({dr main_v2_1, dr main_v5} : Finset (DevRef τ sig)) ⊆ S9 by decide

theorem held_S9 (d : Dev nD) (W : Valuation τ sig (Elt F)) :
    (held (SparseCore.T d) S9 W : sProp 𝕄) = iprop(((SparseCore.T d).loc main_arg0 ↦{fullShare} W (dr main_arg0)) ∗ ((SparseCore.T d).loc main_arg1 ↦{fullShare} W (dr main_arg1))
      ∗ (wLoc d ↦{fullShare} W (dr main_v0)) ∗ (kLoc d ↦{fullShare} W (dr main_v1)) ∗ (tLoc d ↦{fullShare} W (dr main_v2_0)) ∗ (pLoc d ↦{fullShare} W (dr main_v2_1))
      ∗ ((SparseCore.T d).loc main_v3 ↦{fullShare} W (dr main_v3)) ∗ ((SparseCore.T d).loc main_v4 ↦{fullShare} W (dr main_v4)) ∗ (SparseCore.T d).loc main_v5 ↦{fullShare} W (dr main_v5)) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The arrays' contents at launch, before the call, after it, and at the end. -/
def V0 (d : Dev nD) : Valuation τ sig (Elt F) := fun b => m (d, b)
def V1 (d : Dev nD) : Valuation τ sig (Elt F) := (opK (F := F)).result ((opW (F := F)).result (V0 m d))
def V2 (d : Dev nD) (f : Vec F S32x16648 .f32) (g : Vec F S32x49152 .f32) : Valuation τ sig (Elt F) :=
  Function.update (Function.update (V1 m d) (dr main_v2_0) f) (dr main_v2_1) g
def V3 (d : Dev nD) (f : Vec F S32x16648 .f32) (g : Vec F S32x49152 .f32) : Valuation τ sig (Elt F) :=
  (opP (F := F)).result ((opT (F := F)).result ((opS (F := F)).result (V2 m d f g)))

theorem unscoped_held (d : Dev nD) : (unscopedBufs d (fun b => m ((SparseCore.T d).loc b)) : sProp 𝕄) = held (SparseCore.T d) S9 (V0 m d) := by
  rw [held_S9]; unfold unscopedBufs
  rw [show (Finset.univ.filter fun b : Ref sig .tc => ¬ b.isScoped)
      = {main_arg0, main_arg1, main_v0, main_v1, main_v2_0, main_v2_1, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

theorem V1_other (d : Dev nD) {r : Ref sig .tc} (h0 : r ≠ main_v0) (h1 : r ≠ main_v1) : V1 m d (dr r) = m ((SparseCore.T d).loc r) := by
  unfold V1
  rw [StableHlo.reshape_result_ne (h := h1), StableHlo.reshape_result_ne (h := h0)]; rfl
theorem V1_w (d : Dev nD) : V1 m d (dr main_v0) = flatW m d := by
  unfold V1
  rw [StableHlo.reshape_result_ne (h := by decide), StableHlo.reshape_result]; rfl
theorem V1_k (d : Dev nD) : V1 m d (dr main_v1) = flatM m d := by
  unfold V1
  rw [StableHlo.reshape_result, StableHlo.reshape_result_ne (h := by decide)]; rfl

section After
variable (d : Dev nD) (f : Vec F S32x16648 .f32) (g : Vec F S32x49152 .f32)

theorem V2_t : V2 m d f g (dr main_v2_0) = f :=
  (Function.update_of_ne (show dr main_v2_0 ≠ dr main_v2_1 by decide) _ _).trans (Function.update_self _ _ _)
theorem V2_p : V2 m d f g (dr main_v2_1) = g := Function.update_self _ _ _
theorem V2_other {b : DevRef τ sig} (h0 : b ≠ dr main_v2_0) (h1 : b ≠ dr main_v2_1) : V2 m d f g b = V1 m d b :=
  (Function.update_of_ne h1 _ _).trans (Function.update_of_ne h0 _ _)

/-- The two results, from the tables the call leaves. -/
def tableOut (f : Vec F S32x16648 .f32) : Vec F S32x129x129 .f32 :=
  shapeCast S32x129x129 (extractStridedSlice S32x16641 ![0, 0] f slices_S32x16648_S32x16641_0_0) shapeCasts_S32x16641_S32x129x129
def weightsOut (g : Vec F S32x49152 .f32) : Vec F S32x128x128x3 .f32 := shapeCast S32x128x128x3 g shapeCasts_S32x49152_S32x128x128x3

theorem V3_mu : V3 m d f g (dr main_v4) = tableOut f := by
  unfold V3
  rw [StableHlo.reshape_result_ne (h := by decide), StableHlo.reshape_result, StableHlo.unary_result, V2_t]; rfl
theorem V3_pi : V3 m d f g (dr main_v5) = weightsOut g := by
  unfold V3
  rw [StableHlo.reshape_result, StableHlo.reshape_result_ne (h := by decide), StableHlo.unary_result_ne (h := by decide), V2_p]; rfl
theorem V3_arg0 : V3 m d f g (dr main_arg0) = m ((SparseCore.T d).loc main_arg0) := by
  unfold V3
  rw [StableHlo.reshape_result_ne (h := by decide), StableHlo.reshape_result_ne (h := by decide), StableHlo.unary_result_ne (h := by decide),
    V2_other m d f g (by decide) (by decide), V1_other m d (by decide) (by decide)]
theorem V3_arg1 : V3 m d f g (dr main_arg1) = m ((SparseCore.T d).loc main_arg1) := by
  unfold V3
  rw [StableHlo.reshape_result_ne (h := by decide), StableHlo.reshape_result_ne (h := by decide), StableHlo.unary_result_ne (h := by decide),
    V2_other m d f g (by decide) (by decide), V1_other m d (by decide) (by decide)]

end After

/-- Tables right in every row. -/
def Right (d : Dev nD) (f : Vec F S32x16648 .f32) (g : Vec F S32x49152 .f32) : Prop :=
  (∀ b : Fin 32, MuRow (flatW m d) b.val f) ∧ ∀ b : Fin 32, PiRow (flatW m d) (flatM m d) b.val g

/-- What @main leaves. -/
abbrev FIN (d : Dev nD) : sProp 𝕄 := iprop(∃ f g, ⌜Right m d f g⌝ ∗ held (SparseCore.T d) S9 (V3 m d f g))

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opW) (S := S9) subW (V := V0 m d)) $$ [Hb Hheld]
  · isplitl [Hb] <;> iassumption
  iintro ⟨Hb, Hheld⟩
  rw [wp_ret]; imodintro
  iapply (wp_hlo_within 𝒱 (SparseCore.T d) none Set.univ (op := opK) (S := S9) subK) $$ [Hb Hheld]
  · isplitl [Hb] <;> iassumption
  iintro ⟨Hb, Hheld⟩
  rw [wp_ret]; imodintro
  ihave Hh := (Entails.of_eq (show (held (SparseCore.T d) S9 ((opK (F := F)).result ((opW (F := F)).result (V0 m d))) : sProp 𝕄) = _ from held_S9 (F := F) d (V1 m d))) $$ Hheld
  rw [V1_w, V1_k, V1_other m d (r := main_v2_0) (by decide) (by decide), V1_other m d (r := main_v2_1) (by decide) (by decide)]
  icases Hh with ⟨H0, H1, Hw, Hk, Ht, Hp, H3, H4, H5⟩
  iapply ((K (F := F)).wp_run (D (F := F)) 𝒱 (EH := EH) (P := PM m) κ d 0) $$ [Hst Hw Hk Ht Hp Hb Hts H0 H1 H3 H4 H5]
  isplitr; · iexact Hctx
  isplitl [Hst]; · iexact Hst
  isplitl [Hw Hk Ht Hp]
  · rw [st_eq]
    isplitl [Hw]; · iexact Hw
    isplitl [Hk]; · iexact Hk
    isplitl [Ht]; · iexact Ht
    iexact Hp
  iintro ⟨Hst, Hdn⟩
  ihave Hdn' := (dn_elim _ _ _ _ d) $$ Hdn
  icases Hdn' with ⟨Hw, Hk, ⟨%f, %hf, Ht⟩, %g, %hg, Hp⟩
  iapply (wp_hlo_within 𝒱 (SparseCore.T d) none Set.univ (op := opS) (S := S9) subS (V := V2 m d f g)) $$ [Hb H0 H1 Hw Hk Ht Hp H3 H4 H5]
  · isplitl [Hb]; · iexact Hb
    rw [held_S9, V2_t, V2_p, V2_other m d f g (b := dr main_arg0) (by decide) (by decide), V2_other m d f g (b := dr main_arg1) (by decide) (by decide),
      V2_other m d f g (b := dr main_v0) (by decide) (by decide), V2_other m d f g (b := dr main_v1) (by decide) (by decide),
      V2_other m d f g (b := dr main_v3) (by decide) (by decide), V2_other m d f g (b := dr main_v4) (by decide) (by decide),
      V2_other m d f g (b := dr main_v5) (by decide) (by decide), V1_w, V1_k]
    isplitl [H0]; · iexact H0
    isplitl [H1]; · iexact H1
    isplitl [Hw]; · iexact Hw
    isplitl [Hk]; · iexact Hk
    isplitl [Ht]; · iexact Ht
    isplitl [Hp]; · iexact Hp
    isplitl [H3]; · iexact H3
    isplitl [H4]; · iexact H4
    iexact H5
  iintro ⟨Hb, Hheld⟩
  rw [wp_ret]; imodintro
  iapply (wp_hlo_within 𝒱 (SparseCore.T d) none Set.univ (op := opT) (S := S9) subT) $$ [Hb Hheld]
  · isplitl [Hb] <;> iassumption
  iintro ⟨Hb, Hheld⟩
  rw [wp_ret]; imodintro
  iapply (wp_hlo_within 𝒱 (SparseCore.T d) none Set.univ (op := opP) (S := S9) subP) $$ [Hb Hheld]
  · isplitl [Hb] <;> iassumption
  iintro ⟨Hb, Hheld⟩
  rw [wp_ret]; imodintro; imodintro
  isplitl [Hst]; · iexact Hst
  isplitl [Hheld]
  · iexists f; iexists g; isplitr
    · ipureintro; exact ⟨hf, hg⟩
    · iexact Hheld
  isplitl [Hb] <;> iassumption

/-! ## The final state -/

def fq (d : Dev nD) (s' : Phys nD τ sig (Elt F)) : Prop :=
  ∃ f g, Right m d f g ∧ s'.mem.mem ((SparseCore.T d).loc main_v4) = tableOut f ∧ s'.mem.mem ((SparseCore.T d).loc main_v5) = weightsOut g
    ∧ s'.mem.mem ((SparseCore.T d).loc main_arg0) = m ((SparseCore.T d).loc main_arg0) ∧ s'.mem.mem ((SparseCore.T d).loc main_arg1) = m ((SparseCore.T d).loc main_arg1)

theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hl, HSI⟩
  ihave H := (persistent_entails_right (SI_pointsTo_agree (st := s') (ℓ := ℓ) (I := Finset.univ) (q := fullShare) (f := f))) $$ [HSI Hl]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨%f, %g, %hr, Hheld⟩, HSI⟩
  ihave Hh := (Entails.of_eq (held_S9 (F := F) d (V3 m d f g))) $$ Hheld
  rw [V3_mu, V3_pi, V3_arg0, V3_arg1]
  icases Hh with ⟨H0, H1, -, -, -, -, -, H4, H5⟩
  ihave H := (agree s' _ _) $$ [HSI H0]
  · isplitl [H0] <;> iassumption
  icases H with ⟨%h0, HSI⟩
  ihave H := (agree s' _ _) $$ [HSI H1]
  · isplitl [H1] <;> iassumption
  icases H with ⟨%h1, HSI⟩
  ihave H := (agree s' _ _) $$ [HSI H4]
  · isplitl [H4] <;> iassumption
  icases H with ⟨%h4, HSI⟩
  ihave H := (agree s' _ _) $$ [HSI H5]
  · isplitl [H5] <;> iassumption
  icases H with ⟨%h5, -⟩
  ipureintro
  exact ⟨f, g, hr, h4, h5, h0, h1⟩

/-! ## The program's run -/

def QC : PUnit × MemSt nD τ sig (Elt F) → Prop := fun r =>
  (∀ d : Dev nD, ∃ f g, Right m d f g ∧ r.2.mem ((SparseCore.T d).loc main_v4) = tableOut f ∧ r.2.mem ((SparseCore.T d).loc main_v5) = weightsOut g
    ∧ r.2.mem ((SparseCore.T d).loc main_arg0) = m ((SparseCore.T d).loc main_arg0) ∧ r.2.mem ((SparseCore.T d).loc main_arg1) = m ((SparseCore.T d).loc main_arg1))
  ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ _ facts)
    (fun q _ => match q with | 0 => SparseCore.Cfg.VecSplit.of_plain (vecSplit _ _ _ _))
    m ρ main (fun _ => iprop(emp)) (FIN m) (u₀ (F := F)) (sep_elim_left.trans (hu₀ m)) (hmain m ρ) (fq m) (hfin m) (QC m) (fun _ h hz => ⟨h, hz⟩)

end Main

end Cert.Proof.KernelIdeal
-- ==== Proof.RefStep.lean ====
/- One trip of the reference's loop, read at an index: the cell the trip fills gets the log-sum-exp of
   its three neighbours with the cell's weight added to each; every other cell is kept. -/
module

public import proofs.«01_k».proof.Proof.Gen.ReferenceIdeal.Run
public import Idealize.ShloMosaic.Lib.Pointwise
public import Idealize.ShloMosaic.Lib.DynamicIndex
public import Idealize.ShloMosaic.Lib.Tactic.CleanTypes
public import Idealize.ShloMosaic.PureOps.Ideal.Laws
public import Idealize.ShloMosaic.Lib.IdealHost

@[expose] public section

noncomputable section

namespace Cert.Proof.Reference

open Idealize.ShloMosaic
open Cert.ReferenceIdeal Cert.ReferenceIdeal.Gen Cert.ReferenceIdeal.Value

/-! ## The trip's cell -/

/-- A loop index, wrapped as an index of an axis of `c` entries, is itself when it is not negative. -/
theorem wrap_word {n : ℕ} (hn : n < 2 ^ 31) (v : IVec S_ 32) (c : BitVec 32) (hv : v = fun _ => BitVec.ofNat 32 n)
    (j : S_.Idx) : (select (cmpi .slt v (constantI S_ 32 0#32)) (addi (id v) (constantI S_ 32 c)) v j).toInt = n := by
  subst hv
  rw [select_slt_zero_of_nonneg _ _ _ j (by show 0 ≤ (BitVec.ofNat 32 n).toInt; rw [toInt_ofNat_of_lt hn]; omega)]
  exact toInt_ofNat_of_lt hn

theorem div_word {k : ℕ} (hk : k < 16384) :
    IntOp.divsi .host (BitVec.ofNat 32 k) 128#32 = BitVec.ofNat 32 (k / 128) := by
  have hc : ¬ IntOp.SDivCorner (BitVec.ofNat 32 k) 128#32 := by
    unfold IntOp.SDivCorner; simp
  unfold IntOp.divsi
  rw [if_neg hc]
  apply BitVec.eq_of_toInt_eq
  rw [BitVec.toInt_sdiv_of_ne_or_ne _ _ (by right; decide), toInt_ofNat_of_lt (by omega), toInt_ofNat_of_lt (by omega),
    toInt_ofNat_of_lt (by omega)]
  exact (Int.ofNat_tdiv k 128).symm

theorem rem_word {k : ℕ} (hk : k < 16384) :
    IntOp.remsi .host (BitVec.ofNat 32 k) 128#32 = BitVec.ofNat 32 (k % 128) := by
  have hc : ¬ IntOp.SDivCorner (BitVec.ofNat 32 k) 128#32 := by
    unfold IntOp.SDivCorner; simp
  unfold IntOp.remsi
  rw [if_neg hc]
  apply BitVec.eq_of_toInt_eq
  rw [BitVec.toInt_srem, toInt_ofNat_of_lt (by omega), toInt_ofNat_of_lt (by omega),
    toInt_ofNat_of_lt (by omega)]
  exact (Int.ofNat_tmod k 128).symm

theorem succ_word {n : ℕ} : BitVec.ofNat 32 n + 1#32 = BitVec.ofNat 32 (n + 1) := by
  rw [← BitVec.ofNat_add]

/-- A one-cell slice of a table reads the cell it starts at. -/
theorem slice_cell {α : Type} {n : ℕ} (h : (⟨3, ![32, n, n]⟩ : Shape).Slices (fun _ => 0) S32x1x1)
    (x : (⟨3, ![32, n, n]⟩ : Shape).Idx → α) (start : Fin 3 → Int) (i j : Fin n)
    (h0 : start 0 = 0) (h1 : start 1 = i.val) (h2 : start 2 = j.val) (b : Fin 32) (y z : Fin 1) :
    Host.dynamicSlice S32x1x1 x start h (ix3 b y z) = x (ix3 b i j) := by
  rw [Host.dynamicSlice_apply]
  refine congrArg x (funext fun a => Fin.ext ?_)
  have hy : y.val = 0 := by omega
  have hz : z.val = 0 := by omega
  match a with
  | ⟨0, _⟩ =>
    show Host.clampedStart _ S32x1x1 h.1 start 0 + b.val = b.val
    rw [Host.clampedStart_of_le h.1 start 0 0 h0 (by show 0 + 32 ≤ 32; omega)]; omega
  | ⟨1, _⟩ =>
    show Host.clampedStart _ S32x1x1 h.1 start 1 + y.val = i.val
    rw [Host.clampedStart_of_le h.1 start 1 i.val h1 (by show i.val + 1 ≤ n; omega)]; omega
  | ⟨2, _⟩ =>
    show Host.clampedStart _ S32x1x1 h.1 start 2 + z.val = j.val
    rw [Host.clampedStart_of_le h.1 start 2 j.val h2 (by show j.val + 1 ≤ n; omega)]; omega

/-- The start of a one-cell slice at the wrapped indices `v` and `w`. -/
abbrev startAt (c : BitVec 32) (v w : IVec S_ 32) : Fin 3 → Int := fun k =>
  ((![constantI S_ 32 0#32, select (cmpi .slt v (constantI S_ 32 0#32)) (addi (id v) (constantI S_ 32 c)) v,
    select (cmpi .slt w (constantI S_ 32 0#32)) (addi (id w) (constantI S_ 32 c)) w] : Fin 3 → IVec S_ 32) k
      (Shape.Idx.first h_S_)).toInt

/-- The same slice, as a column of cells, one to a batch entry. -/
theorem slice_column {α : Type} {n : ℕ} (hn : n < 2 ^ 31) (h : (⟨3, ![32, n, n]⟩ : Shape).Slices (fun _ => 0) S32x1x1)
    (x : (⟨3, ![32, n, n]⟩ : Shape).Idx → α) (c : BitVec 32) (v w : IVec S_ 32) (i j : Fin n)
    (hv : v = fun _ => BitVec.ofNat 32 i.val) (hw : w = fun _ => BitVec.ofNat 32 j.val) :
    Host.dynamicSlice S32x1x1 x (startAt c v w) h = fun q => x (ix3 (q 0) i j) := by
  funext q
  rw [eq_ix3 q]
  exact slice_cell h x _ i j rfl (wrap_word (by omega) v c hv _) (wrap_word (by omega) w c hw _) (q 0) (q 1) (q 2)

/-- A one-cell update of a table changes the cell it starts at. -/
theorem update_cell {α : Type} {n : ℕ} (h : (⟨3, ![32, n, n]⟩ : Shape).Slices (fun _ => 0) S32x1x1)
    (x : (⟨3, ![32, n, n]⟩ : Shape).Idx → α) (u : S32x1x1.Idx → α) (start : Fin 3 → Int) (i j : Fin n)
    (h0 : start 0 = 0) (h1 : start 1 = i.val) (h2 : start 2 = j.val) (b : Fin 32) (y z : Fin n) :
    Host.dynamicUpdateSlice x u start h (ix3 b y z)
      = if y = i ∧ z = j then u (ix3 b 0 0) else x (ix3 b y z) := by
  have c0 := Host.clampedStart_of_le (t := S32x1x1) h.1 start 0 0 h0 (by show 0 + 32 ≤ 32; omega)
  have c1 := Host.clampedStart_of_le (t := S32x1x1) h.1 start 1 i.val h1 (by show i.val + 1 ≤ n; omega)
  have c2 := Host.clampedStart_of_le (t := S32x1x1) h.1 start 2 j.val h2 (by show j.val + 1 ≤ n; omega)
  rw [Host.dynamicUpdateSlice_apply]
  by_cases hyz : y = i ∧ z = j
  · obtain ⟨rfl, rfl⟩ := hyz
    rw [if_pos ⟨rfl, rfl⟩, dif_pos]
    · refine congrArg u (funext fun a => Fin.ext ?_)
      match a with
      | ⟨0, _⟩ => show b.val - Host.clampedStart _ S32x1x1 h.1 start 0 = b.val; rw [c0]; omega
      | ⟨1, _⟩ => show y.val - Host.clampedStart _ S32x1x1 h.1 start 1 = 0; rw [c1]; omega
      | ⟨2, _⟩ => show z.val - Host.clampedStart _ S32x1x1 h.1 start 2 = 0; rw [c2]; omega
    · intro a
      match a with
      | ⟨0, _⟩ =>
        show Host.clampedStart _ S32x1x1 h.1 start 0 ≤ b.val ∧ b.val < Host.clampedStart _ S32x1x1 h.1 start 0 + 32
        rw [c0]; omega
      | ⟨1, _⟩ =>
        show Host.clampedStart _ S32x1x1 h.1 start 1 ≤ y.val ∧ y.val < Host.clampedStart _ S32x1x1 h.1 start 1 + 1
        rw [c1]; omega
      | ⟨2, _⟩ =>
        show Host.clampedStart _ S32x1x1 h.1 start 2 ≤ z.val ∧ z.val < Host.clampedStart _ S32x1x1 h.1 start 2 + 1
        rw [c2]; omega
  · rw [if_neg hyz, dif_neg]
    intro hin
    have e1 : Host.clampedStart _ S32x1x1 h.1 start 1 ≤ y.val ∧ y.val < Host.clampedStart _ S32x1x1 h.1 start 1 + 1 := hin 1
    have e2 : Host.clampedStart _ S32x1x1 h.1 start 2 ≤ z.val ∧ z.val < Host.clampedStart _ S32x1x1 h.1 start 2 + 1 := hin 2
    rw [c1] at e1; rw [c2] at e2
    exact hyz ⟨Fin.ext (by omega), Fin.ext (by omega)⟩

/-- The one of three values that `n` numbers. -/
def three (n : ℕ) (a b c : EReal) : EReal := if n < 1 then a else if n - 1 < 1 then b else c

/-! ## The trip's new table -/

/-- The cell the trip fills, and its three neighbours. -/
abbrev ci (k : ℕ) (hk : k < 16384) : Fin 129 := ⟨k / 128, by omega⟩
abbrev ci' (k : ℕ) (hk : k < 16384) : Fin 129 := ⟨k / 128 + 1, by omega⟩
abbrev cj (k : ℕ) (hk : k < 16384) : Fin 129 := ⟨k % 128, by omega⟩
abbrev cj' (k : ℕ) (hk : k < 16384) : Fin 129 := ⟨k % 128 + 1, by omega⟩

variable (V : Valuation τ sig (Elt Ideal)) (T : S32x129x129.Idx → EReal) (A : S32x128x128.Idx → EReal) (k : ℕ) (hk : k < 16384)

include hk in
theorem row_word (hc : V (Proc.devRef .tc main_v8_2) = fun _ => BitVec.ofNat 32 k) :
    res_main_while0b_v35 V = fun _ => BitVec.ofNat 32 (k / 128) := by
  unfold res_main_while0b_v35
  rw [hc]
  exact funext fun _ => div_word hk

include hk in
theorem col_word (hc : V (Proc.devRef .tc main_v8_2) = fun _ => BitVec.ofNat 32 k) :
    res_main_while0b_v36 V = fun _ => BitVec.ofNat 32 (k % 128) := by
  unfold res_main_while0b_v36
  rw [hc]
  exact funext fun _ => rem_word hk

theorem weight_at (hc : V (Proc.devRef .tc main_v8_2) = fun _ => BitVec.ofNat 32 k) :
    res_main_while0b_v74 V = fun q => V (Proc.devRef .tc main_v8_0) (ix3 (q 0) ⟨k / 128, by omega⟩ ⟨k % 128, by omega⟩) := by
  unfold res_main_while0b_v74
  exact slice_column (by decide) _ _ _ _ _ _ _ (row_word V k hk hc) (col_word V k hk hc)

include hk in
theorem row_succ (hc : V (Proc.devRef .tc main_v8_2) = fun _ => BitVec.ofNat 32 k) :
    addi (res_main_while0b_v35 V) (constantI S_ 32 1#32) = fun _ => BitVec.ofNat 32 (k / 128 + 1) := by
  rw [row_word V k hk hc]
  exact funext fun _ => succ_word

include hk in
theorem col_succ (hc : V (Proc.devRef .tc main_v8_2) = fun _ => BitVec.ofNat 32 k) :
    addi (res_main_while0b_v36 V) (constantI S_ 32 1#32) = fun _ => BitVec.ofNat 32 (k % 128 + 1) := by
  rw [col_word V k hk hc]
  exact funext fun _ => succ_word

theorem logits_at (hc : V (Proc.devRef .tc main_v8_2) = fun _ => BitVec.ofNat 32 k)
    (hT : V (Proc.devRef .tc main_v8_3) = T) (hA : V (Proc.devRef .tc main_v8_0) = A) :
    res_main_while0b_v81 V = fun q => three (q 0).val
      (T (ix3 (q 1) (ci k hk) (cj' k hk)) + A (ix3 (q 1) ⟨k / 128, by omega⟩ ⟨k % 128, by omega⟩))
      (T (ix3 (q 1) (ci' k hk) (cj k hk)) + A (ix3 (q 1) ⟨k / 128, by omega⟩ ⟨k % 128, by omega⟩))
      (T (ix3 (q 1) (ci k hk) (cj k hk)) + A (ix3 (q 1) ⟨k / 128, by omega⟩ ⟨k % 128, by omega⟩)) := by
  unfold res_main_while0b_v81
  have e1 := slice_column (by decide) sliceFits_S32x129x129_S32x1x1 T 129#32 _ _ (ci k hk) (cj' k hk)
    (row_word V k hk hc) (col_succ V k hk hc)
  have e2 := slice_column (by decide) sliceFits_S32x129x129_S32x1x1 T 129#32 _ _ (ci' k hk) (cj k hk)
    (row_succ V k hk hc) (col_word V k hk hc)
  have e3 := slice_column (by decide) sliceFits_S32x129x129_S32x1x1 T 129#32 _ _ (ci k hk) (cj k hk)
    (row_word V k hk hc) (col_word V k hk hc)
  have ew := weight_at V k hk hc
  unfold res_main_while0b_v37 res_main_while0b_v47
  rw [hT, ew, hA]
  show concatenate S3x32x1x1 0 [
    ⟨S1x32x1x1, broadcastInDim S1x32x1x1 ![1, 2, 3] bcast_S32x1x1_S1x32x1x1_1_2_3
      (addf (F := Ideal) (φ := .f32) (Host.dynamicSlice S32x1x1 T (startAt 129#32 _ _) _) _)⟩,
    ⟨S1x32x1x1, broadcastInDim S1x32x1x1 ![1, 2, 3] bcast_S32x1x1_S1x32x1x1_1_2_3
      (addf (F := Ideal) (φ := .f32) (Host.dynamicSlice S32x1x1 T (startAt 129#32 _ _) _) _)⟩,
    ⟨S1x32x1x1, broadcastInDim S1x32x1x1 ![1, 2, 3] bcast_S32x1x1_S1x32x1x1_1_2_3
      (addf (F := Ideal) (φ := .f32) (Host.dynamicSlice S32x1x1 T (startAt 129#32 _ _) _) _)⟩] _ = _
  rw [e1, e2, e3]
  funext q
  clean_types
  pointwise
  rfl

/-- Minus infinity, as the maxima start. -/
theorem bits_bot : Ideal.ofBits .f32 0xFF800000#32 = (⊥ : EReal) := by simp [Ideal.ofBits, Ideal.ieee]

theorem fold_three {α : Type} (f : α → α → α) [Std.Commutative f] [Std.Associative f] (b : α) (g : Fin 3 → α) :
    Finset.univ.fold f b g = f (g 0) (f (g 1) (f (g 2) b)) := by
  rw [show (Finset.univ : Finset (Fin 3)) = {0, 1, 2} from by decide]
  rw [Finset.fold_insert (by decide), Finset.fold_insert (by decide), Finset.fold_singleton]

theorem max_at (L : FVec Ideal S3x32x1x1 .f32) (b : Fin 32) :
    Host.reduce FloatOps.maximumf L (constant S_ .f32 0xFF800000#32) reducesTo_S3x32x1x1_S32x1x1_d0 h_S_ (ix3 b 0 0)
      = max (L (ix4 0 b 0 0)) (max (L (ix4 1 b 0 0)) (L (ix4 2 b 0 0))) := by
  have hR : S3x32x1x1.Reduces [0] S32x1x1 := by decide
  have hl (x : Fin 3) : hR.lift (ix3 b 0 0) x = ix4 x b 0 0 := by
    funext a
    match a with
    | ⟨0, _⟩ => rfl
    | ⟨1, _⟩ => rfl
    | ⟨2, _⟩ => rfl
    | ⟨3, _⟩ => rfl
  rw [Host.reduce_eq_fold_single FloatOps.maximumf L _ _ hR]
  refine (fold_three FloatOps.maximumf _ _).trans ?_
  show max (L (hR.lift (ix3 b 0 0) (0 : Fin 3))) (max (L (hR.lift (ix3 b 0 0) (1 : Fin 3)))
    (max (L (hR.lift (ix3 b 0 0) (2 : Fin 3))) (Ideal.ofBits .f32 0xFF800000#32))) = _
  rw [hl, hl, hl, bits_bot]
  exact congrArg _ (congrArg _ (max_bot_right _))

theorem sum_at (L : FVec Ideal S3x32x1x1 .f32) (b : Fin 32) :
    Host.reduceAdd L (constant S_ .f32 0x00000000#32) reducesTo_S3x32x1x1_S32x1x1_d0 h_S_ (ix3 b 0 0)
      = L (ix4 0 b 0 0) + L (ix4 1 b 0 0) + L (ix4 2 b 0 0) := by
  pointwise
  exact Fin.sum_univ_three _

/-! ## The cell's formula -/

/-- The argument of the logarithm's series: halved from 3/2 on. -/
def seriesArg (s : EReal) : EReal :=
  if Ideal.ofBits .f32 0x3FC00000#32 ≤ s then Ideal.div s (Ideal.ofBits .f32 0x40000000#32) else s

/-- The series' variable. -/
def seriesVar (s : EReal) : EReal := Ideal.div (seriesArg s - 1) (seriesArg s + 1)

/-- `log s` by the series, as the reference states it. -/
def seriesLog (s : EReal) : EReal :=
  (if Ideal.ofBits .f32 0x3FC00000#32 ≤ s then Ideal.log (Ideal.ofBits .f32 0x40000000#32) else 0)
    + Ideal.ofBits .f32 0x40000000#32
      * (seriesVar s + Ideal.div (seriesVar s * seriesVar s * seriesVar s) (Ideal.ofBits .f32 0x40400000#32)
        + Ideal.div (seriesVar s * (seriesVar s * seriesVar s * (seriesVar s * seriesVar s))) (Ideal.ofBits .f32 0x40A00000#32)
        + Ideal.div (seriesVar s * (seriesVar s * seriesVar s) * (seriesVar s * seriesVar s * (seriesVar s * seriesVar s)))
          (Ideal.ofBits .f32 0x40E00000#32))

/-- The log-sum-exp of three logits. -/
def lse (a b c : EReal) : EReal :=
  let m := max a (max b c)
  m + seriesLog (Ideal.exp (a - m) + Ideal.exp (b - m) + Ideal.exp (c - m))

/-- The trip's three logits, at a batch entry. -/
abbrev lgU (b : Fin 32) : EReal := T (ix3 b (ci k hk) (cj' k hk)) + A (ix3 b ⟨k / 128, by omega⟩ ⟨k % 128, by omega⟩)
abbrev lgL (b : Fin 32) : EReal := T (ix3 b (ci' k hk) (cj k hk)) + A (ix3 b ⟨k / 128, by omega⟩ ⟨k % 128, by omega⟩)
abbrev lgD (b : Fin 32) : EReal := T (ix3 b (ci k hk) (cj k hk)) + A (ix3 b ⟨k / 128, by omega⟩ ⟨k % 128, by omega⟩)

variable {V T A k hk}

theorem top_at (hc : V (Proc.devRef .tc main_v8_2) = fun _ => BitVec.ofNat 32 k)
    (hT : V (Proc.devRef .tc main_v8_3) = T) (hA : V (Proc.devRef .tc main_v8_0) = A) (b : Fin 32) :
    res_main_while0b_v82 V (ix3 b 0 0) = max (lgU T A k hk b) (max (lgL T A k hk b) (lgD T A k hk b)) := by
  unfold res_main_while0b_v82
  rw [logits_at V T A k hk hc hT hA]
  exact max_at _ b

theorem total_at (hc : V (Proc.devRef .tc main_v8_2) = fun _ => BitVec.ofNat 32 k)
    (hT : V (Proc.devRef .tc main_v8_3) = T) (hA : V (Proc.devRef .tc main_v8_0) = A) (b : Fin 32) :
    res_main_while0b_v87 V (ix3 b 0 0) = Ideal.exp (lgU T A k hk b - res_main_while0b_v82 V (ix3 b 0 0))
       + Ideal.exp (lgL T A k hk b - res_main_while0b_v82 V (ix3 b 0 0))
       + Ideal.exp (lgD T A k hk b - res_main_while0b_v82 V (ix3 b 0 0)) := by
  unfold res_main_while0b_v87
  rw [logits_at V T A k hk hc hT hA]
  refine (sum_at _ b).trans ?_
  clean_types
  pointwise
  rfl

theorem var_at (q : S32x1x1.Idx) : res_main_while0b_v97 V q = seriesVar (res_main_while0b_v87 V q) := by
  unfold res_main_while0b_v97 res_main_while0b_v92 seriesVar seriesArg
  clean_types
  pointwise

theorem log_at (hc : V (Proc.devRef .tc main_v8_2) = fun _ => BitVec.ofNat 32 k)
    (hT : V (Proc.devRef .tc main_v8_3) = T) (hA : V (Proc.devRef .tc main_v8_0) = A) (b : Fin 32) :
    lse (lgU T A k hk b) (lgL T A k hk b) (lgD T A k hk b)
      = HAdd.hAdd (α := EReal) (β := EReal) (res_main_while0b_v82 V (ix3 b 0 0))
        (seriesLog (res_main_while0b_v87 V (ix3 b 0 0))) := by
  rw [total_at hc hT hA b, top_at hc hT hA b]
  rfl

theorem new_at (hc : V (Proc.devRef .tc main_v8_2) = fun _ => BitVec.ofNat 32 k)
    (hT : V (Proc.devRef .tc main_v8_3) = T) (hA : V (Proc.devRef .tc main_v8_0) = A) (b : Fin 32) (y z : Fin 129) :
    step_main_v8_3 V (ix3 b y z) = if y = ci' k hk ∧ z = cj' k hk then
      lse (lgU T A k hk b) (lgL T A k hk b) (lgD T A k hk b) else T (ix3 b y z) := by
  unfold step_main_v8_3 res_main_while0b_v125 res_main_while0b_v126
  rw [hT]
  refine (update_cell _ T _ (startAt 129#32 _ _) (ci' k hk) (cj' k hk) rfl
    (wrap_word (by omega) _ _ (row_succ V k hk hc) _) (wrap_word (by omega) _ _ (col_succ V k hk hc) _) b y z).trans ?_
  refine if_congr Iff.rfl ?_ rfl
  rw [log_at hc hT hA b]
  unfold seriesLog res_main_while0b_v103 res_main_while0b_v109
  rw [← var_at]
  clean_types
  simp only [id_eq]
  pointwise

end Cert.Proof.Reference
-- ==== Proof.Formulas.lean ====
/- The formulas of the two programs on real arguments: a cell of the table and a cell's weights, each equal
   in the kernel's form and in the reference's. -/
module

public import proofs.«01_k».proof.Proof.IdealCells
public import proofs.«01_k».proof.Proof.RefStep

@[expose] public section

noncomputable section

namespace Cert.Proof.Formulas

open Idealize.ShloMosaic
open Cert.KernelIdeal Cert.KernelIdeal.Gen
open Cert.Proof.KernelIdeal Cert.Proof.Reference

/-! ## Constants -/

theorem bits_half : Ideal.ofBits .f32 0x3F000000#32 = ((1 / 2 : ℝ) : EReal) := by
  simp [Ideal.ofBits, Ideal.ieee, -EReal.coe_mul]; norm_num
theorem bits_three_halves : Ideal.ofBits .f32 0x3FC00000#32 = ((3 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_five : Ideal.ofBits .f32 0x40A00000#32 = ((5 : ℝ) : EReal) := by
  simp [Ideal.ofBits, Ideal.ieee, -EReal.coe_mul]; norm_num
theorem bits_seven : Ideal.ofBits .f32 0x40E00000#32 = ((7 : ℝ) : EReal) := by
  simp [Ideal.ofBits, Ideal.ieee, -EReal.coe_mul]; norm_num
/-- The border is a real number. -/
theorem bits_border : ∃ r : ℝ, Ideal.ofBits .f32 0xE0AD78EC#32 = (r : EReal) := by
  simp only [Ideal.ofBits, Ideal.ieee]
  rw [if_neg (by decide), if_neg (by decide)]
  exact ⟨_, rfl⟩

/-! ## On the reals -/

/-- A quotient of real numbers. -/
theorem div_real (x y : ℝ) (h : y ≠ 0) : Ideal.div (x : EReal) (y : EReal) = ((x / y : ℝ) : EReal) := by
  rw [Ideal.div_coe h, ← EReal.coe_mul]
  congr 1
  ring

/-- The greatest of two real numbers. -/
theorem max_real (x y : ℝ) : max (x : EReal) (y : EReal) = ((max x y : ℝ) : EReal) := (EReal.coe_strictMono.monotone.map_max).symm

/-- The sum of the three exponentials, the greatest taken off each. -/
def total (a b c : ℝ) : ℝ :=
  Real.exp (a - max a (max b c)) + Real.exp (b - max a (max b c)) + Real.exp (c - max a (max b c))

/-- The number whose odd powers the series sums. -/
def ratio (s : ℝ) : ℝ := ((if 3 / 2 ≤ s then s / 2 else s) - 1) / ((if 3 / 2 ≤ s then s / 2 else s) + 1)

/-- The logarithm as both programs sum it. -/
def logOf (s : ℝ) : ℝ :=
  (if 3 / 2 ≤ s then Real.log 2 else 0)
    + 2 * (ratio s + ratio s ^ 3 / 3 + ratio s ^ 5 / 5 + ratio s ^ 7 / 7)

/-- A cell of the table, from its three logits. -/
def cell (a b c : ℝ) : ℝ := max a (max b c) + logOf (total a b c)

theorem total_pos (a b c : ℝ) : 0 < total a b c := by
  have h1 := Real.exp_pos (a - max a (max b c))
  have h2 := Real.exp_pos (b - max a (max b c))
  have h3 := Real.exp_pos (c - max a (max b c))
  unfold total
  linarith

theorem total_add (a b c w : ℝ) : total (a + w) (b + w) (c + w) = total a b c := by
  unfold total
  rw [max_add_add_right, max_add_add_right]
  simp only [add_sub_add_right_eq_sub]

theorem halved_pos (s : ℝ) (h : 0 < s) : (if 3 / 2 ≤ s then s / 2 else s) + 1 ≠ 0 := by
  split <;> linarith

/-! ## The reference -/

theorem seriesArg_real (s : ℝ) : seriesArg (s : EReal) = (((if 3 / 2 ≤ s then s / 2 else s) : ℝ) : EReal) := by
  unfold seriesArg
  rw [bits_three_halves, bits_two, div_real _ _ (by norm_num)]
  simp only [EReal.coe_le_coe_iff]
  split <;> rfl

theorem seriesVar_real (s : ℝ) (h : 0 < s) : seriesVar (s : EReal) = (ratio s : EReal) := by
  unfold seriesVar ratio
  rw [seriesArg_real, ← EReal.coe_one, ← EReal.coe_sub, ← EReal.coe_add, div_real _ _ (halved_pos s h)]

theorem seriesLog_real (s : ℝ) (h : 0 < s) : seriesLog (s : EReal) = (logOf s : EReal) := by
  unfold seriesLog logOf
  rw [seriesVar_real s h, bits_three_halves, bits_two, bits_three, bits_five, bits_seven]
  simp only [EReal.coe_le_coe_iff, ← EReal.coe_mul, div_real _ (3 : ℝ) (by norm_num), div_real _ (5 : ℝ) (by norm_num),
    div_real _ (7 : ℝ) (by norm_num), ← EReal.coe_add, Ideal.log_coe]
  rw [if_neg (show ¬ (2 : ℝ) ≤ 0 by norm_num)]
  by_cases hs : 3 / 2 ≤ s
  · rw [if_pos hs, if_pos hs, ← EReal.coe_add]
    congr 1
    ring
  · rw [if_neg hs, if_neg hs, ← EReal.coe_zero, ← EReal.coe_add]
    congr 1
    ring

theorem lse_real (a b c : ℝ) : lse (a : EReal) (b : EReal) (c : EReal) = (cell a b c : EReal) := by
  unfold lse cell
  simp only [max_real, ← EReal.coe_sub, Ideal.exp_coe, ← EReal.coe_add]
  exact congrArg (fun t : EReal => (max a (max b c) : ℝ) + t) (seriesLog_real _ (total_pos a b c))

/-! ## The kernel -/

/-- The kernel's sum of exponentials, as printed. -/
def kernelTotal (u l d : EReal) : EReal :=
  Ideal.exp (max (u - max (max u l) d) (Named.named (F := Ideal) κ "neg_inf" (φ := .f32) 0xC2A00000#32))
    + Ideal.exp (max (l - max (max u l) d) (Named.named (F := Ideal) κ "neg_inf" (φ := .f32) 0xC2A00000#32))
    + Ideal.exp (max (d - max (max u l) d) (Named.named (F := Ideal) κ "neg_inf" (φ := .f32) 0xC2A00000#32))

/-- The kernel's series, as printed, of the halved argument `x`. -/
def kernelSeries (x : EReal) : EReal :=
  let v := Ideal.div (x - Ideal.ofBits .f32 0x3F800000#32) (x + Ideal.ofBits .f32 0x3F800000#32)
  Ideal.ofBits .f32 0x40000000#32 * v * (Ideal.ofBits .f32 0x3F800000#32 + v * v * (Named.named (F := Ideal) κ "third" (φ := .f32) 0x3EAAAAAB#32
    + v * v * (Named.named (F := Ideal) κ "fifth" (φ := .f32) 0x3E4CCCCD#32 + v * v * Named.named (F := Ideal) κ "seventh" (φ := .f32) 0x3E124925#32)))

theorem cell_form (u l d w : EReal) : cellAt (F := Ideal) u l d w
    = max (max u l) d
      + Scalar.select (Ideal.cmp .oge (kernelTotal u l d) (Ideal.ofBits .f32 0x3FC00000#32))
          (Named.named (F := Ideal) κ "log_2" (φ := .f32) 0x3F317218#32) (Ideal.ofBits .f32 0x00000000#32)
      + kernelSeries (Scalar.select (Ideal.cmp .oge (kernelTotal u l d) (Ideal.ofBits .f32 0x3FC00000#32))
          (kernelTotal u l d * Ideal.ofBits .f32 0x3F000000#32) (kernelTotal u l d)) + w := by
  rfl

theorem named_bot : Named.named (F := Ideal) κ "neg_inf" (φ := .f32) 0xC2A00000#32 = ⊥ := rfl
theorem named_log : Named.named (F := Ideal) κ "log_2" (φ := .f32) 0x3F317218#32 = ((Real.log 2 : ℝ) : EReal) := rfl
theorem named_third : Named.named (F := Ideal) κ "third" (φ := .f32) 0x3EAAAAAB#32 = ((1 / 3 : ℝ) : EReal) := rfl
theorem named_fifth : Named.named (F := Ideal) κ "fifth" (φ := .f32) 0x3E4CCCCD#32 = ((1 / 5 : ℝ) : EReal) := rfl
theorem named_seventh : Named.named (F := Ideal) κ "seventh" (φ := .f32) 0x3E124925#32 = ((1 / 7 : ℝ) : EReal) := rfl

theorem kernelTotal_real (u l d : ℝ) : kernelTotal (u : EReal) (l : EReal) (d : EReal) = (total u l d : EReal) := by
  unfold kernelTotal
  rw [named_bot]
  simp only [max_bot_right, max_real, ← EReal.coe_sub, Ideal.exp_coe, ← EReal.coe_add, max_assoc]
  rfl

/-- A selection by an ordered comparison of real numbers. -/
theorem select_real (x y : ℝ) (a b : EReal) :
    Scalar.select (Ideal.cmp .oge (x : EReal) (y : EReal)) a b = if y ≤ x then a else b := by
  unfold Scalar.select Ideal.cmp
  by_cases h : y ≤ x
  · rw [if_pos h]
    simp [h]
  · rw [if_neg h]
    simp [h]

theorem kernelSeries_real (s : ℝ) (h : 0 < s) :
    kernelSeries (((if 3 / 2 ≤ s then s / 2 else s) : ℝ) : EReal)
      = ((2 * (ratio s + ratio s ^ 3 / 3 + ratio s ^ 5 / 5 + ratio s ^ 7 / 7) : ℝ) : EReal) := by
  unfold kernelSeries
  rw [Ideal.ofBits_one_f32, bits_two, named_third, named_fifth, named_seventh, ← EReal.coe_one, ← EReal.coe_sub, ← EReal.coe_add,
    div_real _ _ (halved_pos s h)]
  simp only [← EReal.coe_mul, ← EReal.coe_add]
  rw [show ((if 3 / 2 ≤ s then s / 2 else s) - 1) / ((if 3 / 2 ≤ s then s / 2 else s) + 1) = ratio s from rfl]
  congr 1
  ring

/-- **A cell of the table**, in the kernel's form. -/
theorem cell_real (u l d w : ℝ) :
    cellAt (F := Ideal) (u : EReal) (l : EReal) (d : EReal) (w : EReal) = (cell (u + w) (l + w) (d + w) : EReal) := by
  rw [cell_form, kernelTotal_real, bits_three_halves, select_real, select_real, named_log, Ideal.ofBits_zero_f32, bits_half]
  have e : (if (3 / 2 : ℝ) ≤ total u l d then (total u l d : EReal) * ((1 / 2 : ℝ) : EReal) else (total u l d : EReal))
      = (((if 3 / 2 ≤ total u l d then total u l d / 2 else total u l d) : ℝ) : EReal) := by
    split
    · rw [← EReal.coe_mul]
      congr 1
      ring
    · rfl
  have e' : (if (3 / 2 : ℝ) ≤ total u l d then ((Real.log 2 : ℝ) : EReal) else 0)
      = (((if 3 / 2 ≤ total u l d then Real.log 2 else 0) : ℝ) : EReal) := by
    split <;> rfl
  rw [e, e', kernelSeries_real _ (total_pos u l d), max_real, max_real, ← EReal.coe_add, ← EReal.coe_add, ← EReal.coe_add]
  congr 1
  unfold cell logOf
  rw [total_add, max_add_add_right, max_add_add_right, max_assoc]
  ring

/-- The two programs' cells agree. -/
theorem cell_agree (u l d w : ℝ) : cellAt (F := Ideal) (u : EReal) (l : EReal) (d : EReal) (w : EReal)
    = lse ((u : EReal) + (w : EReal)) ((l : EReal) + (w : EReal)) ((d : EReal) + (w : EReal)) := by
  rw [cell_real, ← EReal.coe_add, ← EReal.coe_add, ← EReal.coe_add, lse_real]

/-! ## The weights -/

/-- The kernel's exponential of a logit `x`, the greatest of the logits `a`, `b`, `c` taken off. -/
def kernelExp (a b c x : EReal) : EReal :=
  Ideal.exp (max (x - max (max a b) c) (Named.named (F := Ideal) κ "neg_inf" (φ := .f32) 0xC2A00000#32))

theorem soft_form (u l d w mk : EReal) (n : ℕ) : softAt (F := Ideal) u l d w mk n
    = (if n = 0 then kernelExp (u + w) (l + w) (d + w) (u + w) else if n = 1 then kernelExp (u + w) (l + w) (d + w) (l + w)
        else kernelExp (u + w) (l + w) (d + w) (d + w))
      * Ideal.div mk (kernelExp (u + w) (l + w) (d + w) (u + w) + kernelExp (u + w) (l + w) (d + w) (l + w)
          + kernelExp (u + w) (l + w) (d + w) (d + w)) := by
  unfold softAt
  by_cases h0 : n = 0
  · rw [if_pos h0, if_pos h0]
    rfl
  · rw [if_neg h0, if_neg h0]
    by_cases h1 : n = 1
    · rw [if_pos h1, if_pos h1]
      rfl
    · rw [if_neg h1, if_neg h1]
      rfl

theorem kernelExp_real (a b c x : ℝ) : kernelExp (a : EReal) (b : EReal) (c : EReal) (x : EReal)
    = ((Real.exp (x - max a (max b c)) : ℝ) : EReal) := by
  unfold kernelExp
  rw [named_bot, max_bot_right, max_real, max_real, ← EReal.coe_sub, Ideal.exp_coe, max_assoc]

/-- A quotient of one of three real numbers, whatever multiplies it after. -/
theorem div_mul_swap (x y : ℝ) (h : y ≠ 0) (mk : EReal) :
    Ideal.div (x : EReal) (y : EReal) * mk = (x : EReal) * Ideal.div mk (y : EReal) := by
  rw [Ideal.div_coe h, Ideal.div_coe h, mul_assoc, mul_comm _ mk]

end Cert.Proof.Formulas

end
-- ==== Proof.RefTable.lean ====
/- The reference's table after its loop: the recurrence, at every cell. -/
module

public import proofs.«01_k».proof.Proof.RefStep
public import Idealize.ShloMosaic.Lib.Routing.OpsSet
public import Idealize.ShloMosaic.Lib.Routing.OpsPair

@[expose] public section

noncomputable section

namespace Cert.Proof.Reference

open Idealize.ShloMosaic Idealize.ShloMosaic.TcCoe Idealize.ShloMosaic.StableHlo
open Cert.ReferenceIdeal Cert.ReferenceIdeal.Gen Cert.ReferenceIdeal.Value

/-! ## The recurrence -/

/-- The border's value. -/
abbrev fill : EReal := Ideal.ofBits .f32 0xE0AD78EC#32

/-- The reference's table for the weights `W` of one batch entry, laid out row by row. -/
def rmu (W : ℕ → EReal) : ℕ → ℕ → EReal
  | 0, 0 => 0
  | 0, _ + 1 => fill
  | _ + 1, 0 => fill
  | i + 1, j + 1 => lse (rmu W i (j + 1) + W (i * 128 + j)) (rmu W (i + 1) j + W (i * 128 + j)) (rmu W i j + W (i * 128 + j))
termination_by i j => i + j

/-- The weights of a batch entry, row by row. -/
def rowW (A : S32x128x128.Idx → EReal) (b : Fin 32) (p : ℕ) : EReal :=
  A (ix3 b ⟨p / 128 % 128, Nat.mod_lt _ (by decide)⟩ ⟨p % 128, Nat.mod_lt _ (by decide)⟩)

/-- The table after `k` trips. -/
def tableAt (A : S32x128x128.Idx → EReal) (k : ℕ) (b : Fin 32) (y z : ℕ) : EReal :=
  if y = 0 ∨ z = 0 ∨ (y - 1) * 128 + (z - 1) < k then rmu (rowW A b) y z else fill

/-! ## The loop's entry -/

variable (m : (ℓ : Loc nD τ sig) → Buf (Elt Ideal) ℓ) (c : Dev nD)

/-- The weights the reference is given. -/
abbrev argW : S32x128x128.Idx → EReal := m ((c.tc : Thread nD τ).loc main_arg0)

theorem entry_weights : (entryContents preI m c (Proc.devRef .tc main_v8_0) : S32x128x128.Idx → EReal) = argW m c := by
  simp only [entryContents, afterL_cons, afterL_nil]
  after_reads_simp
  clean_types
  funext q
  simp only [id_eq]
  pointwise

theorem entry_count : (entryContents preI m c (Proc.devRef .tc main_v8_2)) = fun _ => BitVec.ofNat 32 0 := by
  simp only [entryContents, afterL_cons, afterL_nil]
  after_reads_simp
  rfl

theorem corner_lands (idx : IVec S2 32) (h0 : idx = fun _ => 0#32) (k : S32.Idx) (b : Fin 32) (y z : Fin 129) :
    scatter_S32x129x129_S2_S32_0_12_12_0.resultIdx? k idx = some (ix3 b y z) ↔ (k 0).val = b.val ∧ y = 0 ∧ z = 0 := by
  rw [Routing.resultIdx?_eq_some]
  have hs (a : Fin 3) : scatter_S32x129x129_S2_S32_0_12_12_0.start k idx a = 0 := by
    subst h0; unfold ScatterDims.start; split <;> rfl
  have w0 : scatter_S32x129x129_S2_S32_0_12_12_0.window k 0 = (k 0).val := rfl
  have w1 : scatter_S32x129x129_S2_S32_0_12_12_0.window k 1 = 0 := rfl
  have w2 : scatter_S32x129x129_S2_S32_0_12_12_0.window k 2 = 0 := rfl
  constructor
  · intro h
    have e0 := h 0
    have e1 := h 1
    have e2 := h 2
    rw [hs, w0] at e0
    rw [hs, w1] at e1
    rw [hs, w2] at e2
    change (0 : Int) + ((k 0).val : Int) = (b.val : Int) at e0
    change (0 : Int) + ((0 : ℕ) : Int) = (y.val : Int) at e1
    change (0 : Int) + ((0 : ℕ) : Int) = (z.val : Int) at e2
    exact ⟨by omega, Fin.ext (by show y.val = 0; omega), Fin.ext (by show z.val = 0; omega)⟩
  · rintro ⟨e, rfl, rfl⟩ a
    rw [hs]
    match a with
    | ⟨0, _⟩ => show (0 : Int) + ((k 0).val : Int) = (b.val : Int); omega
    | ⟨1, _⟩ => rfl
    | ⟨2, _⟩ => rfl

/-- The table the loop starts from: zero in the corner, the border's value elsewhere. -/
theorem corner_at (x : S32x129x129.Idx → EReal) (hx : x = fun _ => fill) (idx : IVec S2 32) (h0 : idx = fun _ => 0#32)
    (u : S32.Idx → EReal) (hu : u = fun _ => 0) (b : Fin 32) (y z : Fin 129) :
    Host.scatter scatter_S32x129x129_S2_S32_0_12_12_0 (fun _ b => b) x idx u (ix3 b y z)
      = tableAt (argW m c) 0 b y.val z.val := by
  subst hx hu
  by_cases h : y = 0 ∧ z = 0
  · obtain ⟨rfl, rfl⟩ := h
    rw [Routing.scatter_set_hit _ _ _ _ _ 0 (fun _ _ => rfl) (ix1 b) ((corner_lands idx h0 _ b 0 0).2 ⟨rfl, rfl, rfl⟩)]
    refine Eq.trans ?_ (if_pos (Or.inl rfl)).symm
    show _ = rmu _ 0 0
    rw [rmu]
  · rw [Routing.scatter_set_miss _ _ _ _ _ fun k hk => h ((corner_lands idx h0 _ b y z).1 hk).2]
    unfold tableAt
    split
    · next h' =>
      rcases h' with h' | h' | h'
      · have : z.val ≠ 0 := fun e => h ⟨Fin.ext h', Fin.ext e⟩
        obtain ⟨n, hn⟩ := Nat.exists_eq_succ_of_ne_zero this
        rw [h', hn, rmu]
      · have : y.val ≠ 0 := fun e => h ⟨Fin.ext e, Fin.ext h'⟩
        obtain ⟨n, hn⟩ := Nat.exists_eq_succ_of_ne_zero this
        rw [h', hn, rmu]
      · omega
    · rfl

theorem entry_table (b : Fin 32) (y z : Fin 129) :
    (entryContents preI m c (Proc.devRef .tc main_v8_3) : S32x129x129.Idx → EReal) (ix3 b y z) = tableAt (argW m c) 0 b y.val z.val := by
  have e3 : upto hostOps0 (launchContents m c) 9 (Proc.tc.devRef main_v3) = fun _ => 0#32 := by
    after_reads_simp
    rfl
  have e4 : upto hostOps0 (launchContents m c) 9 (Proc.tc.devRef main_v4) = fun _ => 0#32 := by
    after_reads_simp
    rfl
  have e5 : concatenate S2 0 [⟨S1, fun _ => 0#32⟩, ⟨S1, fun _ => 0#32⟩] concatenates_S1_S1_S2_d0 = fun _ => 0#32 := by
    funext q
    pointwise
    split <;> rfl
  simp only [entryContents, afterL_cons, afterL_nil]
  after_reads_simp
  clean_types
  simp only [id_eq]
  rw [e3, e4]
  exact corner_at m c _ (by funext q; pointwise) _ e5 _ (by funext q; pointwise) b y z

/-! ## The loop -/

/-- Before trip `k`: the counter is `k`, the weights are the argument, and the table's first `k` inner
    cells hold the recurrence. -/
def Before (k : ℕ) (V : Valuation τ sig (Elt Ideal)) : Prop :=
  V (Proc.devRef .tc main_v8_2) = (fun _ => BitVec.ofNat 32 k)
  ∧ V (Proc.devRef .tc main_v8_0) = argW m c
  ∧ ∀ (b : Fin 32) (y z : Fin 129),
      (V (Proc.devRef .tc main_v8_3) : S32x129x129.Idx → EReal) (ix3 b y z) = tableAt (argW m c) k b y.val z.val

theorem rowW_at (A : S32x128x128.Idx → EReal) (b : Fin 32) (k : ℕ) (hk : k < 16384) :
    A (ix3 b ⟨k / 128, by omega⟩ ⟨k % 128, by omega⟩) = rowW A b (k / 128 * 128 + k % 128) := by
  unfold rowW
  congr 2 <;> apply Fin.ext <;> dsimp only <;> omega

theorem before_step (k : ℕ) (hk : k < 16384) (V : Valuation τ sig (Elt Ideal)) (h : Before m c k V) :
    Before m c (k + 1) (STEP V) := by
  obtain ⟨hc, hA, hT⟩ := h
  refine ⟨?_, ?_, ?_⟩
  · rw [STEP_main_v8_2]
    unfold step_main_v8_2
    rw [hc]
    exact funext fun _ => succ_word
  · rw [STEP_main_v8_0, hA]
  · intro b y z
    rw [STEP_main_v8_3]
    refine (new_at (hk := hk) hc rfl hA b y z).trans ?_
    unfold lgU lgL lgD
    rw [hT, hT, hT, hT, rowW_at (argW m c) b k hk]
    by_cases h : y = ci' k hk ∧ z = cj' k hk
    · obtain ⟨rfl, rfl⟩ := h
      rw [if_pos ⟨rfl, rfl⟩]
      unfold tableAt
      rw [if_pos (by dsimp only; omega), if_pos (by dsimp only; omega), if_pos (by dsimp only; omega), if_pos (by dsimp only; omega)]
      show _ = rmu _ (k / 128 + 1) (k % 128 + 1)
      rw [rmu]
    · rw [if_neg h]
      unfold tableAt
      refine if_congr ?_ rfl rfl
      have hn : ¬ (y.val = k / 128 + 1 ∧ z.val = k % 128 + 1) := fun e => h ⟨Fin.ext e.1, Fin.ext e.2⟩
      have := y.isLt
      have := z.isLt
      omega

theorem before_iter : ∀ k, k ≤ 16384 → Before m c k (STEP^[k] (entryContents preI m c))
  | 0, _ => ⟨entry_count m c, entry_weights m c, entry_table m c⟩
  | k + 1, h => by
    rw [Function.iterate_succ_apply']
    exact before_step m c k (by omega) _ (before_iter k (by omega))

/-- **The reference's table.** -/
theorem table_at (b : Fin 32) (y z : Fin 129) :
    ((STEP^[16384] (entryContents preI m c)) (Proc.devRef .tc main_v8_3) : S32x129x129.Idx → EReal) (ix3 b y z)
      = rmu (rowW (argW m c) b) y.val z.val := by
  rw [(before_iter m c 16384 le_rfl).2.2 b y z]
  unfold tableAt
  rw [if_pos (by have := y.isLt; have := z.isLt; omega)]

end Cert.Proof.Reference
-- ==== Proof.RefWeights.lean ====
/- The reference's softmax weights, read at an index. -/
module

public import proofs.«01_k».proof.Proof.RefTable

@[expose] public section

noncomputable section

namespace Cert.Proof.Reference

open Idealize.ShloMosaic Idealize.ShloMosaic.TcCoe Idealize.ShloMosaic.StableHlo
open Cert.ReferenceIdeal Cert.ReferenceIdeal.Gen Cert.ReferenceIdeal.Value

/-- The softmax weight number `n` of three logits, times the mask. -/
def weightOf (a b c mk : EReal) (n : ℕ) : EReal :=
  let t := max a (max b c)
  Ideal.div (Ideal.exp (three n a b c - t)) (Ideal.exp (a - t) + Ideal.exp (b - t) + Ideal.exp (c - t)) * mk

theorem top3_at (L : FVec Ideal S32x128x128x3 .f32) (b : Fin 32) (i j : Fin 128) :
    Host.reduce FloatOps.maximumf L (constant S_ .f32 0xFF800000#32) reducesTo_S32x128x128x3_S32x128x128_d3 h_S_ (ix3 b i j)
      = max (L (ix4 b i j 0)) (max (L (ix4 b i j 1)) (L (ix4 b i j 2))) := by
  have hR : S32x128x128x3.Reduces [3] S32x128x128 := by decide
  have hl (x : Fin 3) : hR.lift (ix3 b i j) x = ix4 b i j x := by
    funext a
    match a with
    | ⟨0, _⟩ => rfl
    | ⟨1, _⟩ => rfl
    | ⟨2, _⟩ => rfl
    | ⟨3, _⟩ => rfl
  rw [Host.reduce_eq_fold_single FloatOps.maximumf L _ _ hR]
  refine (fold_three FloatOps.maximumf _ _).trans ?_
  show max (L (hR.lift (ix3 b i j) (0 : Fin 3))) (max (L (hR.lift (ix3 b i j) (1 : Fin 3)))
    (max (L (hR.lift (ix3 b i j) (2 : Fin 3))) (Ideal.ofBits .f32 0xFF800000#32))) = _
  rw [hl, hl, hl, bits_bot]
  exact congrArg _ (congrArg _ (max_bot_right _))

theorem sum3_at (L : FVec Ideal S32x128x128x3 .f32) (b : Fin 32) (i j : Fin 128) :
    Host.reduceAdd L (constant S_ .f32 0x00000000#32) reducesTo_S32x128x128x3_S32x128x128_d3 h_S_ (ix3 b i j)
      = L (ix4 b i j 0) + L (ix4 b i j 1) + L (ix4 b i j 2) := by
  pointwise
  exact Fin.sum_univ_three _

theorem bc_at (M : FVec Ideal S32x128x128x1 .f32) (b : Fin 32) (i j : Fin 128) (n : Fin 3) :
   (broadcastInDim S32x128x128x3 ![0, 1, 2, 3] bcast_S32x128x128x1_S32x128x128x3_0_1_2_3 M) (ix4 b i j n) = M (ix4 b i j 0) := by
  pointwise

theorem bc1_at (M : FVec Ideal S32x128x128 .f32) (b : Fin 32) (i j : Fin 128) (n : Fin 1) :
   (broadcastInDim S32x128x128x1 ![0, 1, 2] bcast_S32x128x128_S32x128x128x1_0_1_2 M) (ix4 b i j n) = M (ix3 b i j) := by
  pointwise

/-- An exponential of a difference, at an index. -/
theorem exp_sub_at {s : Shape} (L X : FVec Ideal s .f32) (q : s.Idx) : Host.exp (subf L X) q = Ideal.exp (L q - X q) := rfl

/-- A maximum with a constant below every number, at an index. -/
theorem max_below_at (X : FVec Ideal S32x128x128 .f32) (q : S32x128x128.Idx) :
    maximumf (broadcastInDim S32x128x128 ![] bcast_S_S32x128x128 (constant S_ .f32 0xFF800000#32)) X q = X q := by
  have e : maximumf (broadcastInDim S32x128x128 ![] bcast_S_S32x128x128 (constant (F := Ideal) S_ .f32 0xFF800000#32)) X q
      = max (Ideal.ofBits .f32 0xFF800000#32) (X q) := rfl
  rw [e, bits_bot, max_bot_left]

/-- The logits less their greatest, under the exponential. -/
theorem shifted_at (L : FVec Ideal S32x128x128x3 .f32) (b : Fin 32) (i j : Fin 128) (n : Fin 3) :
    Host.exp (subf L (broadcastInDim S32x128x128x3 ![0, 1, 2, 3] bcast_S32x128x128x1_S32x128x128x3_0_1_2_3
      (broadcastInDim S32x128x128x1 ![0, 1, 2] bcast_S32x128x128_S32x128x128x1_0_1_2
        (maximumf (broadcastInDim S32x128x128 ![] bcast_S_S32x128x128 (constant S_ .f32 0xFF800000#32))
          (Host.reduce FloatOps.maximumf L (constant S_ .f32 0xFF800000#32) reducesTo_S32x128x128x3_S32x128x128_d3 h_S_)))))
      (ix4 b i j n)
      = Ideal.exp (L (ix4 b i j n) - max (L (ix4 b i j 0)) (max (L (ix4 b i j 1)) (L (ix4 b i j 2)))) := by
  rw [exp_sub_at, bc_at, bc1_at, max_below_at, top3_at]

/-- The logits: the neighbours above, to the left and on the diagonal, the weight added to each. -/
theorem logits3_at (T : FVec Ideal S32x129x129 .f32) (A : FVec Ideal S32x128x128 .f32) (b : Fin 32) (i j : Fin 128) (n : Fin 3) :
    concatenate S32x128x128x3 3 [
      ⟨S32x128x128x1, broadcastInDim S32x128x128x1 ![0, 1, 2] bcast_S32x128x128_S32x128x128x1_0_1_2
        (addf (extractStridedSlice S32x128x128 ![0, 0, 1] T slices_S32x129x129_S32x128x128_0_0_1)
          (mulf (broadcastInDim S32x128x128 ![] bcast_S_S32x128x128 (constant S_ .f32 0x3F800000#32)) A))⟩,
      ⟨S32x128x128x1, broadcastInDim S32x128x128x1 ![0, 1, 2] bcast_S32x128x128_S32x128x128x1_0_1_2
        (addf (extractStridedSlice S32x128x128 ![0, 1, 0] T slices_S32x129x129_S32x128x128_0_1_0)
          (mulf (broadcastInDim S32x128x128 ![] bcast_S_S32x128x128 (constant S_ .f32 0x3F800000#32)) A))⟩,
      ⟨S32x128x128x1, broadcastInDim S32x128x128x1 ![0, 1, 2] bcast_S32x128x128_S32x128x128x1_0_1_2
        (addf (extractStridedSlice S32x128x128 ![0, 0, 0] T slices_S32x129x129_S32x128x128_0_0_0)
          (mulf (broadcastInDim S32x128x128 ![] bcast_S_S32x128x128 (constant S_ .f32 0x3F800000#32)) A))⟩]
      concatenates_S32x128x128x1_S32x128x128x1_S32x128x128x1_S32x128x128x3_d3 (ix4 b i j n)
      = three n.val (T (ix3 b ⟨i.val, by omega⟩ ⟨1 + j.val, by omega⟩) + A (ix3 b i j))
          (T (ix3 b ⟨1 + i.val, by omega⟩ ⟨j.val, by omega⟩) + A (ix3 b i j))
          (T (ix3 b ⟨i.val, by omega⟩ ⟨j.val, by omega⟩) + A (ix3 b i j)) := by
  pointwise
  rfl

theorem weights_form (V : Valuation τ sig (Elt Ideal)) (T : S32x129x129.Idx → EReal) (A : S32x128x128.Idx → EReal)
    (M : S32x128x128x1.Idx → EReal) (hT : V (Proc.devRef .tc main_v8_3) = T) (hA : V (Proc.devRef .tc main_arg0) = A)
    (hM : V (Proc.devRef .tc main_arg1) = M) (b : Fin 32) (i j : Fin 128) (n : Fin 3) :
    out_main_v33 V (ix4 b i j n) = weightOf (T (ix3 b ⟨i.val, by omega⟩ ⟨1 + j.val, by omega⟩) + A (ix3 b i j))
      (T (ix3 b ⟨1 + i.val, by omega⟩ ⟨j.val, by omega⟩) + A (ix3 b i j))
      (T (ix3 b ⟨i.val, by omega⟩ ⟨j.val, by omega⟩) + A (ix3 b i j)) (M (ix4 b i j 0)) n.val := by
  unfold out_main_v33
  rw [hT, hA, hM]
  have hL := logits3_at T A b i j
  unfold weightOf
  generalize concatenate S32x128x128x3 3 _ _ = L at hL ⊢
  refine congrArg₂ (fun x y : EReal => x * y) (congrArg₂ Ideal.div ((shifted_at L b i j n).trans ?_) ?_) (bc_at M b i j n)
  · rw [hL, hL, hL, hL]
    rfl
  · rw [bc_at, bc1_at, sum3_at, shifted_at, shifted_at, shifted_at, hL, hL, hL]
    rfl

variable (m : (ℓ : Loc nD τ sig) → Buf (Elt Ideal) ℓ) (c : Dev nD)

/-- The mask the reference is given. -/
abbrev argM : S32x128x128x1.Idx → EReal := m ((c.tc : Thread nD τ).loc main_arg1)

/-- The reference's weight of channel `n` at row `i`, column `j`. -/
def rpi (W : ℕ → EReal) (mk : EReal) (i j n : ℕ) : EReal :=
  weightOf (rmu W i (j + 1) + W (i * 128 + j)) (rmu W (i + 1) j + W (i * 128 + j)) (rmu W i j + W (i * 128 + j)) mk n

/-- **The reference's weights.** -/
theorem weights_at (b : Fin 32) (i j : Fin 128) (n : Fin 3) :
    out_main_v33 (STEP^[16384] (entryContents preI m c)) (ix4 b i j n)
      = rpi (rowW (argW m c) b) (argM m c (ix4 b i j 0)) i.val j.val n.val := by
  have hT := table_at m c b
  have h0 := iter_main_arg0 m c 16384
  have h1 := iter_main_arg1 m c 16384
  generalize (STEP^[16384] (entryContents preI m c)) = V at hT h0 h1 ⊢
  refine (weights_form V _ (argW m c) (argM m c) rfl h0 h1 b i j n).trans ?_
  have e : argW m c (ix3 b i j) = rowW (argW m c) b (i.val * 128 + j.val) := by
    unfold rowW
    congr 2 <;> apply Fin.ext <;> dsimp only <;> omega
  rw [hT, hT, hT, e]
  dsimp only
  rw [Nat.add_comm 1 j.val, Nat.add_comm 1 i.val]
  rfl

end Cert.Proof.Reference
-- ==== Proof.Agree.lean ====
/- The two programs' tables and weights, equal where the weights given are real numbers. -/
module

public import proofs.«01_k».proof.Proof.Formulas
public import proofs.«01_k».proof.Proof.RefWeights

@[expose] public section

noncomputable section

namespace Cert.Proof.Formulas

open Idealize.ShloMosaic
open Cert.KernelIdeal Cert.KernelIdeal.Gen
open Cert.Proof.KernelIdeal Cert.Proof.Reference

/-- **A cell's weights** agree, whatever its mask. -/
theorem weight_agree (u l d w : ℝ) (mk : EReal) (n : ℕ) (hn : n < 3) :
    softAt (F := Ideal) (u : EReal) (l : EReal) (d : EReal) (w : EReal) mk n
      = weightOf ((u : EReal) + (w : EReal)) ((l : EReal) + (w : EReal)) ((d : EReal) + (w : EReal)) mk n := by
  have hpos := (total_pos (u + w) (l + w) (d + w)).ne'
  rw [soft_form]
  unfold weightOf
  simp only [← EReal.coe_add, kernelExp_real, max_real]
  have key : ∀ x : ℝ, Ideal.div (Ideal.exp ((x : EReal) - ((max (u + w) (max (l + w) (d + w)) : ℝ) : EReal)))
      (Ideal.exp (((u + w : ℝ) : EReal) - ((max (u + w) (max (l + w) (d + w)) : ℝ) : EReal))
        + Ideal.exp (((l + w : ℝ) : EReal) - ((max (u + w) (max (l + w) (d + w)) : ℝ) : EReal))
        + Ideal.exp (((d + w : ℝ) : EReal) - ((max (u + w) (max (l + w) (d + w)) : ℝ) : EReal))) * mk
      = ((Real.exp (x - max (u + w) (max (l + w) (d + w))) : ℝ) : EReal)
        * Ideal.div mk ((total (u + w) (l + w) (d + w) : ℝ) : EReal) := by
    intro x
    simp only [← EReal.coe_sub, Ideal.exp_coe, ← EReal.coe_add]
    exact div_mul_swap _ _ hpos mk
  interval_cases n <;> exact (key _).symm

/-- The kernel's table is the reference's, and real, where the weights are real. -/
theorem table_agree (W : ℕ → EReal) (hW : ∀ p, p < 16384 → ∃ r : ℝ, W p = (r : EReal)) : ∀ i j : ℕ, i ≤ 128 → j ≤ 128 →
    mu (F := Ideal) W i j = rmu W i j ∧ ∃ r : ℝ, rmu W i j = (r : EReal)
  | 0, 0, _, _ => by
      rw [mu, rmu]
      exact ⟨Ideal.ofBits_zero_f32, 0, rfl⟩
  | 0, j + 1, _, _ => by
      rw [mu, rmu]
      exact ⟨rfl, bits_border⟩
  | i + 1, 0, _, _ => by
      rw [mu, rmu]
      exact ⟨rfl, bits_border⟩
  | i + 1, j + 1, hi, hj => by
      obtain ⟨eu, u, hu⟩ := table_agree W hW i (j + 1) (by omega) hj
      obtain ⟨el, l, hl⟩ := table_agree W hW (i + 1) j hi (by omega)
      obtain ⟨ed, d, hd⟩ := table_agree W hW i j (by omega) (by omega)
      obtain ⟨w, hw⟩ := hW (i * 128 + j) (by omega)
      rw [mu, rmu, eu, el, ed, hu, hl, hd, hw, cell_agree]
      refine ⟨rfl, cell (u + w) (l + w) (d + w), ?_⟩
      rw [← EReal.coe_add, ← EReal.coe_add, ← EReal.coe_add, lse_real]
termination_by i j => i + j

/-- The kernel's weights are the reference's, where the weights given are real. -/
theorem weights_agree (W M : ℕ → EReal) (hW : ∀ p, p < 16384 → ∃ r : ℝ, W p = (r : EReal)) (i j n : ℕ) (hi : i < 128) (hj : j < 128)
    (hn : n < 3) : piV (F := Ideal) W M (i * 128 + j) n = rpi W (M (i * 128 + j)) i j n := by
  obtain ⟨eu, u, hu⟩ := table_agree W hW i (j + 1) (by omega) (by omega)
  obtain ⟨el, l, hl⟩ := table_agree W hW (i + 1) j (by omega) (by omega)
  obtain ⟨ed, d, hd⟩ := table_agree W hW i j (by omega) (by omega)
  obtain ⟨w, hw⟩ := hW (i * 128 + j) (by omega)
  unfold piV rpi
  rw [show (i * 128 + j) / 128 = i by omega, show (i * 128 + j) % 128 = j by omega, eu, el, ed, hu, hl, hd, hw]
  exact weight_agree u l d w _ n hn

end Cert.Proof.Formulas

end
-- ==== Proof.Results.lean ====
/- The kernel's two results against the reference's, on weights that are real numbers: the arrays before and
   after their reshapes, index by index, and what the precondition says of the weights. -/
module

public import proofs.«01_k».proof.Defs
public import proofs.«01_k».proof.Proof.Agree
public import proofs.«01_k».proof.Proof.IdealLaunch
public import Idealize.ShloMosaic.Lib.ReduceAll

@[expose] public section

noncomputable section

namespace Cert.Proof.Results

open Idealize.ShloMosaic Idealize.ShloMosaic.TcCoe
open Cert.KernelIdeal Cert.KernelIdeal.Gen
open Cert.Proof.KernelIdeal Cert.Proof.Formulas

/-! ## The precondition -/

/-- The side conditions of the precondition's operations. -/
theorem pre_facts : Cert.Pre_w_finite.Facts where
  bcast_S_S32x128x128 := by decide
  reducesTo_S32x128x128_S_d0_1_2 := by decide
  h_S_ := by decide

theorem bits_top : Ideal.ofBits .f32 0x7F800000#32 = ⊤ := by
  simp [Ideal.ofBits, Ideal.ieee]

/-- An extended real of finite size is a real number. -/
theorem real_of_abs_lt (x : EReal) (h : max x (-x) < ⊤) : ∃ r : ℝ, x = (r : EReal) := by
  induction x with
  | bot => simp at h
  | coe r => exact ⟨r, rfl⟩
  | top => simp at h

/-- Under the precondition every weight is a real number. -/
theorem weight_real (A : FVec Ideal Cert.Pre_w_finite.S32x128x128 .f32) (M : FVec Ideal Cert.Pre_w_finite.S32x128x128x1 .f32)
    (h : @Cert.Pre_w_finite.fn pre_facts Ideal _ A M = fun _ => 1#1) (q : Cert.Pre_w_finite.S32x128x128.Idx) :
    ∃ r : ℝ, A q = (r : EReal) := by
  haveI : Subsingleton Cert.Pre_w_finite.S_.Idx := ⟨fun a b => funext fun k => k.elim0⟩
  have e := congrFun h (fun k => k.elim0)
  unfold Cert.Pre_w_finite.fn at e
  have e' := Host.reduce_andi_all _ _ _ _ _ e q
  refine real_of_abs_lt _ ?_
  have e'' : BitVec.ofBool (decide (max (A q) (-(A q)) < Ideal.ofBits .f32 0x7F800000#32)) = 1#1 := e'
  rw [bits_top] at e''
  by_contra hn
  rw [decide_eq_false hn] at e''
  exact absurd e'' (by decide)

/-! ## The reshapes -/

theorem rowOf_flat (A : FVec Ideal S32x128x128 .f32) (b : Fin 32) (p : ℕ) (hp : p < 16384) :
    rowOf (F := Ideal) (shapeCast S32x16384 A shapeCasts_S32x128x128_S32x16384) b.val p
      = A (ix3 b ⟨p / 128 % 128, Nat.mod_lt _ (by decide)⟩ ⟨p % 128, Nat.mod_lt _ (by decide)⟩) := by
  have e : (Shape.pair (d := ![32, 16384]) (rowNo b.val) ⟨p % 16384, Nat.mod_lt _ (by decide)⟩ : S32x16384.Idx)
      = ix2 b ⟨p, hp⟩ := by
    funext a
    apply Fin.ext
    match a with
    | 0 => exact Nat.mod_eq_of_lt b.isLt
    | 1 => exact Nat.mod_eq_of_lt hp
  unfold rowOf
  rw [e]
  pointwise
  congr 2 <;> apply Fin.ext <;> dsimp only <;> omega

theorem rowOf_flat1 (A : FVec Ideal S32x128x128x1 .f32) (b : Fin 32) (i j : Fin 128) :
    rowOf (F := Ideal) (shapeCast S32x16384 A shapeCasts_S32x128x128x1_S32x16384) b.val (i.val * 128 + j.val)
      = A (ix4 b i j 0) := by
  have e : (Shape.pair (d := ![32, 16384]) (rowNo b.val) ⟨(i.val * 128 + j.val) % 16384, Nat.mod_lt _ (by decide)⟩ : S32x16384.Idx)
      = ix2 b ⟨i.val * 128 + j.val, by omega⟩ := by
    funext a
    apply Fin.ext
    match a with
    | 0 => exact Nat.mod_eq_of_lt b.isLt
    | 1 => exact Nat.mod_eq_of_lt (by have := i.isLt; have := j.isLt; omega)
  unfold rowOf
  rw [e]
  pointwise

theorem tableOut_at (f : FVec Ideal S32x16648 .f32) (b : Fin 32) (y z : Fin 129) :
    tableOut (F := Ideal) f (ix3 b y z) = f (ix2 b ⟨y.val * 129 + z.val, by omega⟩) := by
  unfold tableOut
  pointwise

theorem weightsOut_at (g : FVec Ideal S32x49152 .f32) (b : Fin 32) (i j : Fin 128) (n : Fin 3) :
    weightsOut (F := Ideal) g (ix4 b i j n) = g (ix2 b ⟨(i.val * 128 + j.val) * 3 + n.val, by omega⟩) := by
  unfold weightsOut
  pointwise
  congr 2 <;> apply Fin.ext <;> dsimp only <;> omega

/-! ## The results -/

section
variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)
  (hpre : @Cert.Pre_KernelIdeal_w_finite pre_facts m)
  (h0 : m' ((c.tc : Thread Cert.ReferenceIdeal.nD Cert.ReferenceIdeal.τ).loc Cert.ReferenceIdeal.main_arg0)
    = m ((c.tc : Thread nD τ).loc main_arg0))
  (h1 : m' ((c.tc : Thread Cert.ReferenceIdeal.nD Cert.ReferenceIdeal.τ).loc Cert.ReferenceIdeal.main_arg1)
    = m ((c.tc : Thread nD τ).loc main_arg1))

include hpre h0

/-- The reference's weights are real. -/
theorem rows_real (b : Fin 32) (p : ℕ) : ∃ r : ℝ, Cert.Proof.Reference.rowW (Cert.Proof.Reference.argW m' c) b p = (r : EReal) := by
  unfold Cert.Proof.Reference.rowW Cert.Proof.Reference.argW
  rw [h0]
  exact weight_real _ _ (hpre c) _

omit hpre in
/-- A batch entry's weights, flat, are the reference's. -/
theorem rows_eq (b : Fin 32) :
    rowOf (F := Ideal) (flatW m c) b.val = Cert.Proof.Reference.rowW (Cert.Proof.Reference.argW m' c) b := by
  funext p
  have e : rowOf (F := Ideal) (flatW m c) b.val p = rowOf (F := Ideal) (flatW m c) b.val (p % 16384) := by
    unfold rowOf
    congr 2
    exact Fin.ext (Nat.mod_mod _ _).symm
  rw [e]
  refine (rowOf_flat _ b _ (Nat.mod_lt _ (by decide))).trans ?_
  unfold Cert.Proof.Reference.rowW Cert.Proof.Reference.argW
  rw [h0]
  congr 2 <;> apply Fin.ext <;> dsimp only <;> omega

/-- **The tables** agree: the kernel's first result is the reference's. -/
theorem table_result (f : Vec Ideal S32x16648 .f32) (hf : ∀ b : Fin 32, MuRow (flatW m c) b.val f) :
    tableOut f = (Cert.ReferenceIdeal.Value.STEP^[16384]
      (StableHlo.entryContents Cert.ReferenceIdeal.Value.preI m' c)) (Proc.devRef .tc Cert.ReferenceIdeal.main_v8_3) := by
  funext q
  obtain ⟨b, y, z, rfl⟩ : ∃ (b : Fin 32) (y z : Fin 129), q = ix3 b y z := ⟨q 0, q 1, q 2, eq_ix3 q⟩
  refine (tableOut_at f b y z).trans ?_
  refine Eq.trans ?_ (Cert.Proof.Reference.table_at m' c b y z).symm
  have hy : y.val < 129 := y.isLt
  have hz : z.val < 129 := z.isLt
  refine (hf b y.val z.val (by omega) (by omega) _ rfl rfl).trans ?_
  rw [rows_eq m m' c h0]
  exact (table_agree _ (fun p _ => rows_real m m' c hpre h0 b p) _ _ (by omega) (by omega)).1

include h1 in
/-- **The weights** agree: the kernel's second result is the reference's. -/
theorem weights_result (g : Vec Ideal S32x49152 .f32) (hg : ∀ b : Fin 32, PiRow (flatW m c) (flatM m c) b.val g) :
    weightsOut g = Cert.ReferenceIdeal.Value.out_main_v33 (Cert.ReferenceIdeal.Value.STEP^[16384]
      (StableHlo.entryContents Cert.ReferenceIdeal.Value.preI m' c)) := by
  funext q
  obtain ⟨b, i, j, n, rfl⟩ : ∃ (b : Fin 32) (i j : Fin 128) (n : Fin 3), q = ix4 b i j n := ⟨q 0, q 1, q 2, q 3, eq_ix4 q⟩
  refine (weightsOut_at g b i j n).trans ?_
  refine Eq.trans ?_ (Cert.Proof.Reference.weights_at m' c b i j n).symm
  have hi : i.val < 128 := i.isLt
  have hj : j.val < 128 := j.isLt
  have hn : n.val < 3 := n.isLt
  refine (hg b (i.val * 128 + j.val) n.val (by omega) hn _ rfl rfl).trans ?_
  rw [rows_eq m m' c h0]
  refine (weights_agree _ _ (fun p _ => rows_real m m' c hpre h0 b p) _ _ _ hi hj hn).trans ?_
  refine congrArg (fun t => Cert.Proof.Reference.rpi _ t _ _ _) ?_
  refine (rowOf_flat1 _ b i j).trans ?_
  unfold Cert.Proof.Reference.argM
  rw [h1]

end

end Cert.Proof.Results

end
-- ==== Proof.Series.lean ====
/- How far the truncated series lies from the logarithm. -/
module

public import Mathlib.Analysis.SpecialFunctions.Log.Basic
public import Mathlib.Analysis.SpecialFunctions.ExpDeriv
public import Mathlib.Analysis.Calculus.Deriv.Inverse
public import Mathlib.Analysis.Calculus.Deriv.Inv
public import Mathlib.Analysis.Calculus.Deriv.MeanValue
public import Mathlib.Analysis.Calculus.Deriv.Pow

@[expose] public section

noncomputable section

namespace Cert.Proof.Series

/-- The logarithm's derivative. -/
theorem log_deriv (x : ℝ) (h : 0 < x) : HasDerivAt Real.log x⁻¹ x := by
  have e : HasDerivAt Real.exp x (Real.log x) := by
    have := Real.hasDerivAt_exp (Real.log x)
    rwa [Real.exp_log h] at this
  refine e.of_local_left_inverse (Real.continuousAt_log h.ne') h.ne' ?_
  filter_upwards [lt_mem_nhds h] with y hy using Real.exp_log hy

/-- The logarithm of `(1 + t) / (1 - t)` less its series up to the seventh power. -/
def rest (t : ℝ) : ℝ := Real.log (1 + t) - Real.log (1 - t) - 2 * (t + t ^ 3 / 3 + t ^ 5 / 5 + t ^ 7 / 7)

theorem rest_deriv (t : ℝ) (h : t ^ 2 < 1) : HasDerivAt rest (2 * t ^ 8 / (1 - t ^ 2)) t := by
  have h1 : 0 < 1 + t := by nlinarith
  have h2 : 0 < 1 - t := by nlinarith
  have a := (log_deriv (1 + t) h1).comp t ((hasDerivAt_id t).const_add 1)
  have b := (log_deriv (1 - t) h2).comp t ((hasDerivAt_id t).const_sub 1)
  have c := ((((hasDerivAt_id t).add ((hasDerivAt_pow 3 t).div_const 3)).add ((hasDerivAt_pow 5 t).div_const 5)).add
    ((hasDerivAt_pow 7 t).div_const 7)).const_mul 2
  refine ((a.sub b).sub c).congr_deriv ?_
  have h3 : 1 - t ^ 2 ≠ 0 := by linarith
  push_cast
  field_simp
  ring

/-- A function whose derivative is never negative there does not fall on the interval. -/
theorem mono_of_deriv {f f' : ℝ → ℝ} (r : ℝ) (hd : ∀ t, |t| ≤ r → HasDerivAt f (f' t) t) (h0 : ∀ t, |t| ≤ r → 0 ≤ f' t) :
    MonotoneOn f (Set.Icc (-r) r) := by
  refine monotoneOn_of_deriv_nonneg (convex_Icc _ _) (fun t ht => (hd t (abs_le.mpr ht)).continuousAt.continuousWithinAt)
    (fun t ht => ?_) (fun t ht => ?_)
  · rw [interior_Icc] at ht
    exact (hd t (abs_le.mpr ⟨ht.1.le, ht.2.le⟩)).differentiableAt.differentiableWithinAt
  · rw [interior_Icc] at ht
    have ht' : |t| ≤ r := abs_le.mpr ⟨ht.1.le, ht.2.le⟩
    rw [(hd t ht').deriv]
    exact h0 t ht'

theorem rest_zero : rest 0 = 0 := by
  unfold rest
  norm_num

/-- Within a fifth of zero the rest is less than two to the minus twenty-third. -/
theorem rest_le (t : ℝ) (h : |t| ≤ 1 / 5) : |rest t| ≤ 1 / 2 ^ 23 := by
  have hsq : ∀ t : ℝ, |t| ≤ 1 / 5 → t ^ 2 ≤ 1 / 25 := by
    intro t ht
    rw [← sq_abs]
    calc |t| ^ 2 ≤ (1 / 5) ^ 2 := pow_le_pow_left₀ (abs_nonneg t) ht 2
      _ = 1 / 25 := by norm_num
  have hm := mono_of_deriv (f := rest) (1 / 5) (fun t ht => rest_deriv t (by linarith [hsq t ht])) (fun t ht => by
    have := hsq t ht
    exact div_nonneg (by positivity) (by linarith))
  have hn := mono_of_deriv (f := fun t => 25 / 108 * t ^ 9 - rest t) (f' := fun t => 25 / 108 * (9 * t ^ 8) - 2 * t ^ 8 / (1 - t ^ 2))
    (1 / 5)
    (fun t ht => by
      have := (((hasDerivAt_pow 9 t).const_mul (25 / 108)).sub (rest_deriv t (by linarith [hsq t ht])))
      exact this.congr_deriv (by push_cast; ring))
    (fun t ht => by
      have h1 := hsq t ht
      have h2 : 2 * t ^ 8 / (1 - t ^ 2) ≤ 2 * t ^ 8 / (24 / 25) :=
        div_le_div_of_nonneg_left (by positivity) (by norm_num) (by linarith)
      have h3 : 2 * t ^ 8 / (24 / 25) = 25 / 108 * (9 * t ^ 8) := by ring
      linarith)
  have ht := abs_le.mp h
  have h0m : (0 : ℝ) ∈ Set.Icc (-(1 / 5) : ℝ) (1 / 5) := ⟨by norm_num, by norm_num⟩
  have htm : t ∈ Set.Icc (-(1 / 5) : ℝ) (1 / 5) := ⟨ht.1, ht.2⟩
  have h9 : |t ^ 9| ≤ (1 / 5) ^ 9 := by
    rw [abs_pow]
    exact pow_le_pow_left₀ (abs_nonneg t) h 9
  have h9' := abs_le.mp h9
  rw [abs_le]
  rcases le_total 0 t with hs | hs
  · have a := hm h0m htm hs
    have b := hn h0m htm hs
    simp only [rest_zero] at a b
    norm_num at a b h9' ⊢
    constructor <;> linarith
  · have a := hm htm h0m hs
    have b := hn htm h0m hs
    simp only [rest_zero] at a b
    norm_num at a b h9' ⊢
    constructor <;> linarith

/-- Between three quarters and three halves, the cut series of `(x - 1) / (x + 1)` is the logarithm but for less than
    two to the minus twenty-third. -/
theorem log_near (x : ℝ) (h0 : 3 / 4 ≤ x) (h1 : x ≤ 3 / 2) :
    |2 * ((x - 1) / (x + 1) + ((x - 1) / (x + 1)) ^ 3 / 3 + ((x - 1) / (x + 1)) ^ 5 / 5 + ((x - 1) / (x + 1)) ^ 7 / 7)
      - Real.log x| ≤ 1 / 2 ^ 23 := by
  have hp : 0 < x + 1 := by linarith
  obtain ⟨t, ht⟩ : ∃ t, t = (x - 1) / (x + 1) := ⟨_, rfl⟩
  rw [← ht]
  have hl : |t| ≤ 1 / 5 := by
    rw [ht, abs_le, le_div_iff₀ hp, div_le_iff₀ hp]
    constructor <;> linarith
  have e1 : 1 + t = x * (2 / (x + 1)) := by rw [ht]; field_simp; ring
  have e2 : 1 - t = 2 / (x + 1) := by rw [ht]; field_simp; ring
  have hq : 2 / (x + 1) ≠ 0 := by positivity
  have e : Real.log (1 + t) - Real.log (1 - t) = Real.log x := by
    rw [e1, e2, Real.log_mul (by linarith) hq]
    ring
  have hb := rest_le t hl
  unfold rest at hb
  rwa [e, abs_sub_comm] at hb

end Cert.Proof.Series

end
-- ==== Proof.Near.lean ====
/- The kernel's table against the recurrence with the true logarithm: each cell lies within two to the minus
   twenty-third of the logsumexp of the three cells it is made from. -/
module

public import proofs.«01_k».proof.Defs
public import proofs.«01_k».proof.Proof.Series
public import proofs.«01_k».proof.Proof.Results

@[expose] public section

noncomputable section

namespace Cert.Proof.Near

open Idealize.ShloMosaic Idealize.ShloMosaic.TcCoe
open Cert.KernelIdeal Cert.KernelIdeal.Gen
open Cert.Proof.KernelIdeal Cert.Proof.Formulas Cert.Proof.Results

/-! ## On the reals -/

theorem total_bounds (a b c : ℝ) : 1 ≤ total a b c ∧ total a b c ≤ 3 := by
  have ha : Real.exp (a - max a (max b c)) ≤ 1 := Real.exp_le_one_iff.mpr (by linarith [le_max_left a (max b c)])
  have hb : Real.exp (b - max a (max b c)) ≤ 1 :=
    Real.exp_le_one_iff.mpr (by linarith [le_max_right a (max b c), le_max_left b c])
  have hc : Real.exp (c - max a (max b c)) ≤ 1 :=
    Real.exp_le_one_iff.mpr (by linarith [le_max_right a (max b c), le_max_right b c])
  have pa := Real.exp_pos (a - max a (max b c))
  have pb := Real.exp_pos (b - max a (max b c))
  have pc := Real.exp_pos (c - max a (max b c))
  unfold total
  refine ⟨?_, by linarith⟩
  rcases max_choice a (max b c) with h | h
  · have : Real.exp (a - max a (max b c)) = 1 := by rw [h, sub_self, Real.exp_zero]
    linarith
  · rcases max_choice b c with h' | h'
    · have : Real.exp (b - max a (max b c)) = 1 := by rw [h, h', sub_self, Real.exp_zero]
      linarith
    · have : Real.exp (c - max a (max b c)) = 1 := by rw [h, h', sub_self, Real.exp_zero]
      linarith

/-- The series both programs sum, against the logarithm. -/
theorem logOf_near (s : ℝ) (h1 : 1 ≤ s) (h3 : s ≤ 3) : |logOf s - Real.log s| ≤ 1 / 2 ^ 23 := by
  unfold logOf ratio
  by_cases h : 3 / 2 ≤ s
  · simp only [if_pos h]
    have e : Real.log s = Real.log 2 + Real.log (s / 2) := by
      rw [Real.log_div (by linarith) (by norm_num)]
      ring
    rw [e, add_sub_add_left_eq_sub]
    exact Series.log_near (s / 2) (by linarith) (by linarith)
  · simp only [if_neg h, zero_add]
    exact Series.log_near s (by linarith) (by linarith)

/-- A cell against the true logsumexp of its three logits. -/
theorem cell_near (a b c : ℝ) : |cell a b c - (max a (max b c) + Real.log (total a b c))| ≤ 1 / 2 ^ 23 := by
  unfold cell
  rw [add_sub_add_left_eq_sub]
  exact logOf_near _ (total_bounds a b c).1 (total_bounds a b c).2

/-! ## The postcondition -/

/-- The side conditions of the postcondition's operations. -/
theorem post_facts : Cert.Post_near_logsumexp.Facts where
  slices_S32x129x129_S32x128x128_0_0_1 := by decide
  slices_S32x129x129_S32x128x128_0_1_0 := by decide
  slices_S32x129x129_S32x128x128_0_0_0 := by decide
  slices_S32x129x129_S32x128x128_0_1_1 := by decide
  bcast_S_S32x128x128 := by decide

theorem bits_eps : Ideal.ofBits .f32 0x34000000#32 = ((1 / 2 ^ 23 : ℝ) : EReal) := by
  simp [Ideal.ofBits, Ideal.ieee, -EReal.coe_mul]; norm_num

theorem cmp_ole (x y : EReal) (h : x ≤ y) : Ideal.cmp .ole x y = 1#1 := by
  unfold Ideal.cmp
  simp [h]

/-- The distance of a value from the logsumexp of three logits is small. -/
def closeTo (v a b c : EReal) : BitVec 1 :=
  let t := max a (max b c)
  let x := v - (t + Ideal.log (Ideal.exp (a - t) + Ideal.exp (b - t) + Ideal.exp (c - t)))
  Ideal.cmp .ole (max x (-x)) (Ideal.ofBits .f32 0x34000000#32)

theorem closeTo_cell (a b c : ℝ) : closeTo (cell a b c : EReal) (a : EReal) (b : EReal) (c : EReal) = 1#1 := by
  unfold closeTo
  simp only [max_real, ← EReal.coe_sub, Ideal.exp_coe, ← EReal.coe_add]
  have e : Ideal.log ((Real.exp (a - max a (max b c)) + Real.exp (b - max a (max b c)) + Real.exp (c - max a (max b c)) : ℝ) : EReal)
      = ((Real.log (total a b c) : ℝ) : EReal) := by
    rw [Ideal.log_coe]
    exact if_neg (not_le.mpr (total_pos a b c))
  rw [e, ← EReal.coe_add, ← EReal.coe_sub, ← EReal.coe_neg, max_real, bits_eps]
  exact cmp_ole _ _ (EReal.coe_le_coe_iff.mpr (cell_near a b c))

theorem abs_form (x : EReal) : (FloatOps.absf (F := Ideal) (φ := .f32) x : EReal) = max x (-x) := rfl

/-- The postcondition, at an index. -/
theorem post_at (A : FVec Ideal Cert.Post_near_logsumexp.S32x128x128 .f32) (M : FVec Ideal Cert.Post_near_logsumexp.S32x128x128x1 .f32)
    (T : FVec Ideal Cert.Post_near_logsumexp.S32x129x129 .f32) (P : FVec Ideal Cert.Post_near_logsumexp.S32x128x128x3 .f32)
    (b : Fin 32) (i j : Fin 128) :
    @Cert.Post_near_logsumexp.fn post_facts Ideal _ A M T P (ix3 b i j)
      = closeTo (T (ix3 b ⟨1 + i.val, by omega⟩ ⟨1 + j.val, by omega⟩))
          (T (ix3 b ⟨i.val, by omega⟩ ⟨1 + j.val, by omega⟩) + A (ix3 b i j))
          (T (ix3 b ⟨1 + i.val, by omega⟩ ⟨j.val, by omega⟩) + A (ix3 b i j))
          (T (ix3 b ⟨i.val, by omega⟩ ⟨j.val, by omega⟩) + A (ix3 b i j)) := by
  unfold Cert.Post_near_logsumexp.fn closeTo
  dsimp only
  pointwise
  rw [abs_form]

/-! ## The kernel's table -/

section
variable (m : (ℓ : Loc nD τ sig) → Buf (Elt Ideal) ℓ) (c : Dev nD) (hpre : @Cert.Pre_KernelIdeal_w_finite pre_facts m)
include hpre

theorem row_real (b : Fin 32) (p : ℕ) (hp : p < 16384) : ∃ r : ℝ, rowOf (F := Ideal) (flatW m c) b.val p = (r : EReal) := by
  obtain ⟨r, hr⟩ := weight_real _ _ (hpre c) (ix3 b ⟨p / 128 % 128, Nat.mod_lt _ (by decide)⟩ ⟨p % 128, Nat.mod_lt _ (by decide)⟩)
  exact ⟨r, (rowOf_flat _ b p hp).trans hr⟩

/-- Every inner cell of the kernel's table is close to the logsumexp of the three it is made from. -/
theorem table_near (f : Vec Ideal S32x16648 .f32) (hf : ∀ b : Fin 32, MuRow (flatW m c) b.val f)
    (P : FVec Ideal Cert.Post_near_logsumexp.S32x128x128x3 .f32) :
    @Cert.Post_near_logsumexp.fn post_facts Ideal _ (m ((c.tc : Thread nD τ).loc main_arg0)) (m ((c.tc : Thread nD τ).loc main_arg1))
      (tableOut f) P = fun _ => 1#1 := by
  funext q
  obtain ⟨b, i, j, rfl⟩ : ∃ (b : Fin 32) (i j : Fin 128), q = ix3 b i j := ⟨q 0, q 1, q 2, eq_ix3 q⟩
  have hi := i.isLt
  have hj := j.isLt
  have ht : ∀ y z : Fin 129, tableOut (F := Ideal) f (ix3 b y z) = mu (F := Ideal) (rowOf (flatW m c) b.val) y.val z.val := by
    intro y z
    have hy := y.isLt
    have hz := z.isLt
    exact (tableOut_at f b y z).trans (hf b y.val z.val (by omega) (by omega) _ rfl rfl)
  have hw : m ((c.tc : Thread nD τ).loc main_arg0) (ix3 b i j) = rowOf (F := Ideal) (flatW m c) b.val (i.val * 128 + j.val) := by
    refine Eq.trans ?_ (rowOf_flat _ b _ (by omega)).symm
    congr 2 <;> apply Fin.ext <;> dsimp only <;> omega
  obtain ⟨eu, u, hu⟩ := table_agree _ (row_real m c hpre b) i.val (j.val + 1) (by omega) (by omega)
  obtain ⟨el, l, hl⟩ := table_agree _ (row_real m c hpre b) (i.val + 1) j.val (by omega) (by omega)
  obtain ⟨ed, d, hd⟩ := table_agree _ (row_real m c hpre b) i.val j.val (by omega) (by omega)
  obtain ⟨w, hr⟩ := row_real m c hpre b (i.val * 128 + j.val) (by omega)
  refine (post_at _ _ _ P b i j).trans ?_
  rw [ht, ht, ht, ht, hw]
  dsimp only
  rw [Nat.add_comm 1 i.val, Nat.add_comm 1 j.val]
  rw [mu_step, eu, el, ed, hu, hl, hd, hr, cell_real, ← EReal.coe_add, ← EReal.coe_add, ← EReal.coe_add]
  exact closeTo_cell _ _ _

end

end Cert.Proof.Near

end
-- ==== Proof.lean ====
/- The certificate's claims, each from the modules under Proof/: the two readings of the kernel from their
   launch modules, the reference's frame from its generated run, the agreement of the two from both. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.BitsLaunch
public import proofs.«01_k».proof.Proof.IdealLaunch
public import proofs.«01_k».proof.Proof.Results
public import proofs.«01_k».proof.Proof.Near
public import Idealize.ShloMosaic.Adequacy
public import Idealize.ShloMosaic.Init

@[expose] public section

noncomputable section

namespace Cert.Proof

open Idealize.ShloMosaic Idealize.SL.Sem Cert.Kernel

/-- The kernel as printed runs, keeps its arguments and leaves every counter at zero. -/
theorem frame_kernel : Cert.quiescent_Kernel := fun m ρ _ =>
  (θ_run Cert.Kernel.defs _ _).mono
    (fun _ h => ⟨fun c => by obtain ⟨_, _, _, _, _, h0, h1⟩ := h.1 c; exact ⟨h0, h1⟩, h.2⟩) (Cert.Proof.Kernel.run_main (F := Bits) m ρ)

/-- So does its reading over the extended reals. -/
theorem frame_ideal : Cert.quiescent_KernelIdeal := fun m ρ _ =>
  (θ_run Cert.KernelIdeal.defs _ _).mono
    (fun _ h => ⟨fun c => by obtain ⟨_, _, _, _, _, h0, h1⟩ := h.1 c; exact ⟨h0, h1⟩, h.2⟩) (Cert.Proof.KernelIdeal.run_main (F := Ideal) m ρ)

/-- So does the reference, which has no counter. -/
theorem frame_reference : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩) (Cert.ReferenceIdeal.Value.run (F := Ideal) m ρ)

/-- Each named constant is the value its name stands for. -/
theorem names : Cert.preserves_Kernel_KernelIdeal :=
  ⟨IdealRules.named_const.statement Cert.KernelIdeal.κ "neg_inf" .f32 0xC2A00000#32 ⊥ rfl,
    IdealRules.named_const.statement Cert.KernelIdeal.κ "log_2" .f32 0x3F317218#32 ((Real.log 2 : ℝ) : EReal) rfl,
    IdealRules.named_const.statement Cert.KernelIdeal.κ "seventh" .f32 0x3E124925#32 ((1 / 7 : ℝ) : EReal) rfl,
    IdealRules.named_const.statement Cert.KernelIdeal.κ "fifth" .f32 0x3E4CCCCD#32 ((1 / 5 : ℝ) : EReal) rfl,
    IdealRules.named_const.statement Cert.KernelIdeal.κ "third" .f32 0x3EAAAAAB#32 ((1 / 3 : ℝ) : EReal) rfl⟩

/-- On weights that are real numbers, kernel and reference end with the same table and the same step weights. -/
theorem agree : @Cert.algebraic_KernelIdeal_ReferenceIdeal_pre_w_finite Cert.KernelIdeal.Gen.facts Cert.ReferenceIdeal.Gen.facts
    Cert.Proof.Results.pre_facts := fun m ρ m' ρ' hpre hm =>
  ⟨fun c => (Cert.ReferenceIdeal.Value.STEP^[16384]
      (StableHlo.entryContents Cert.ReferenceIdeal.Value.preI m' c)) (Proc.devRef .tc Cert.ReferenceIdeal.main_v8_3),
    fun c => Cert.ReferenceIdeal.Value.out_main_v33 (Cert.ReferenceIdeal.Value.STEP^[16384]
      (StableHlo.entryContents Cert.ReferenceIdeal.Value.preI m' c)),
    (θ_run Cert.KernelIdeal.defs _ _).mono
      (fun _ h c => by
        obtain ⟨f, g, hR, hT, hP, h0, h1⟩ := h.1 c
        exact ⟨hT.trans (Cert.Proof.Results.table_result m m' c hpre (hm c).1 f hR.1),
          hP.trans (Cert.Proof.Results.weights_result m m' c hpre (hm c).1 (hm c).2 g hR.2), h0, h1⟩)
      (Cert.Proof.KernelIdeal.run_main (F := Ideal) m ρ),
    Cert.ReferenceIdeal.Value.run (F := Ideal) m' ρ'⟩

/-- On weights that are real numbers, every inner cell of the kernel's table is within two to the minus twenty-third
    of the logsumexp, with the true logarithm, of the three cells it is made from. -/
theorem near : @Cert.holds_KernelIdeal_near_logsumexp_pre_w_finite Cert.KernelIdeal.Gen.facts Cert.Proof.Results.pre_facts
    Cert.Proof.Near.post_facts := fun m ρ hpre =>
  (θ_run Cert.KernelIdeal.defs _ _).mono
    (fun _ h c => by
      obtain ⟨f, g, hR, hT, _, h0, h1⟩ := h.1 c
      exact ⟨h0, h1, (congrArg (fun T => @Cert.Post_near_logsumexp.fn Cert.Proof.Near.post_facts Ideal _ _ _ T _) hT).trans
        (Cert.Proof.Near.table_near m c hpre f hR.1 _)⟩)
    (Cert.Proof.KernelIdeal.run_main (F := Ideal) m ρ)

theorem claim : Cert.Claim :=
  ⟨Cert.Kernel.Gen.facts, Cert.KernelIdeal.Gen.facts, Cert.ReferenceIdeal.Gen.facts, Cert.Proof.Results.pre_facts,
    Cert.Proof.Near.post_facts,
    frame_kernel, frame_ideal, fun m ρ _ => frame_ideal m ρ trivial, frame_reference, fun m ρ _ => frame_reference m ρ trivial,
    names, agree, near⟩

end Cert.Proof

end
